-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def preserves_Reference_ReferenceIdeal : Prop :=
  IdealRules.named_const.Statement Cert.ReferenceIdeal.κ "clip_lo" .f32 0xC2700000#32 ⊥
  ∧ IdealRules.named_const.Statement Cert.ReferenceIdeal.κ "clip_hi" .f32 0x42700000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1 : Shape := ⟨1, ![1]⟩
abbrev S2x8x1024x512 : Shape := ⟨4, ![2, 8, 1024, 512]⟩
abbrev S1024x512 : Shape := ⟨2, ![1024, 512]⟩
abbrev S2x8 : Shape := ⟨2, ![2, 8]⟩
abbrev S_ : Shape := ⟨0, ![]⟩
abbrev S1024x1024 : Shape := ⟨2, ![1024, 1024]⟩
abbrev S1x1x1024x512 : Shape := ⟨4, ![1, 1, 1024, 512]⟩
abbrev S1x1 : Shape := ⟨2, ![1, 1]⟩

abbrev nBuf : Space → Nat
  | .hbm => 7
  | .vmem => 5
  | .smem => 2
  | _ => 0

abbrev bufTy : (tb : Table) → Fin (tcTables nBuf tb) → BufTy
  | .hbm, ⟨0, _⟩ => ⟨S4096x1024, .i8⟩
  | .hbm, ⟨1, _⟩ => ⟨S1024x8192, .i8⟩
  | .hbm, ⟨2, _⟩ => ⟨S1, .f32⟩
  | .hbm, ⟨3, _⟩ => ⟨S1, .f32⟩
  | .hbm, ⟨4, _⟩ => ⟨S1024x8192, .f32⟩
  | .hbm, ⟨5, _⟩ => ⟨S2x8x1024x512, .bf16⟩
  | .hbm, ⟨6, _⟩ => ⟨S2x8x1024x512, .bf16⟩
  | .local _ .vmem, ⟨0, _⟩ => ⟨S4096x1024, .i8⟩
  | .local _ .vmem, ⟨1, _⟩ => ⟨S1024x8192, .i8⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 3 69 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_30 : BitVec 32 := 1#32
  let v50 : BitVec 32 := Scalar.muli v14 c1_i32_30
  let v51 : BitVec 32 := Scalar.addi c0_i32_31 v50
  v51.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_33 : BitVec 32 := 1#32
  let v52 : BitVec 32 := Scalar.muli v25 c1_i32_33
  let v53 : BitVec 32 := Scalar.addi c0_i32_34 v52
  v53.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_14 : BitVec 32 := 4#32
  let v26 : BitVec 32 := Scalar.addi v2 c4_i32_14
  let c1_i32_15 : BitVec 32 := 1#32
  let v27 : BitVec 32 := Scalar.subi v26 c1_i32_15
  let c4_i32_16 : BitVec 32 := 4#32
  let c0_i32_17 : BitVec 32 := 0#32
  let v28 : BitVec 1 := Scalar.cmpi .eq c4_i32_16 c0_i32_17
  let c1_i32_18 : BitVec 32 := 1#32
  let v29 : BitVec 32 := Scalar.select v28 c1_i32_18 c4_i32_16
  let v30 : BitVec 32 := Scalar.remsi v27 v29
  let c0_i32_20 : BitVec 32 := 0#32
  let v32 : BitVec 1 := Scalar.cmpi .slt v30 c0_i32_20
  let c0_i32_21 : BitVec 32 := 0#32
  let v33 : BitVec 1 := Scalar.cmpi .slt v29 c0_i32_21
  let v34 : BitVec 1 := Scalar.xori v32 v33
  let c0_i32_19 : BitVec 32 := 0#32
  let v31 : BitVec 1 := Scalar.cmpi .ne v30 c0_i32_19
  let v35 : BitVec 1 := Scalar.andi v34 v31
  let v36 : BitVec 32 := Scalar.addi v30 v29
  let v37 : BitVec 32 := Scalar.select v35 v36 v30
  let c1024_i32 : BitVec 32 := 1024#32
  let v54 : BitVec 32 := Scalar.muli v37 c1024_i32
  let v55 : Index := Scalar.indexCast v54
  let c0 : Index := 0#32
  ![v55.toNat, 0]
def k0_dev3 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_55 : BitVec 32 := 1#32
  let v71 : BitVec 32 := Scalar.muli v25 c1_i32_55
  let v72 : BitVec 32 := Scalar.addi c0_i32_56 v71
  v72.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_22 : BitVec 32 := 1#32
  let v38 : BitVec 32 := Scalar.addi v2 c1_i32_22
  let c4_i32_23 : BitVec 32 := 4#32
  let c0_i32_24 : BitVec 32 := 0#32
  let v39 : BitVec 1 := Scalar.cmpi .eq c4_i32_23 c0_i32_24
  let c1_i32_25 : BitVec 32 := 1#32
  let v40 : BitVec 32 := Scalar.select v39 c1_i32_25 c4_i32_23
  let v41 : BitVec 32 := Scalar.remsi v38 v40
  let c0_i32_27 : BitVec 32 := 0#32
  let v43 : BitVec 1 := Scalar.cmpi .slt v41 c0_i32_27
  let c0_i32_28 : BitVec 32 := 0#32
  let v44 : BitVec 1 := Scalar.cmpi .slt v40 c0_i32_28
  let v45 : BitVec 1 := Scalar.xori v43 v44
  let c0_i32_26 : BitVec 32 := 0#32
  let v42 : BitVec 1 := Scalar.cmpi .ne v41 c0_i32_26
  let v46 : BitVec 1 := Scalar.andi v45 v42
  let v47 : BitVec 32 := Scalar.addi v41 v40
  let v48 : BitVec 32 := Scalar.select v46 v47 v41
  let c1024_i32_61 : BitVec 32 := 1024#32
  let v81 : BitVec 32 := Scalar.muli v48 c1024_i32_61
  let v82 : Index := Scalar.indexCast v81
  let c0_62 : Index := 0#32
  ![v82.toNat, 0]
def k0_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_83 : BitVec 32 := 1#32
  let v98 : BitVec 32 := Scalar.muli v14 c1_i32_83
  let v99 : BitVec 32 := Scalar.addi c0_i32_84 v98
  v99.toNat
def k0_dev5 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_111 : BitVec 32 := 1#32
  let v125 : BitVec 32 := Scalar.muli v25 c1_i32_111
  let v126 : BitVec 32 := Scalar.addi c0_i32_112 v125
  v126.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_139 : BitVec 32 := 1#32
  let v152 : BitVec 32 := Scalar.muli v14 c1_i32_139
  let v153 : BitVec 32 := Scalar.addi c0_i32_140 v152
  v153.toNat
def k0_dev7 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_167 : BitVec 32 := 1#32
  let v179 : BitVec 32 := Scalar.muli v25 c1_i32_167
  let v180 : BitVec 32 := Scalar.addi c0_i32_168 v179
  v180.toNat
def k0_dev8 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_195 : BitVec 32 := 1#32
  let v206 : BitVec 32 := Scalar.muli v14 c1_i32_195
  let v207 : BitVec 32 := Scalar.addi c0_i32_196 v206
  v207.toNat
def k0_dev9 (d0 : Dev nD) : Nat :=
  let c0_i32_223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_222 : BitVec 32 := 1#32
  let v233 : BitVec 32 := Scalar.muli v25 c1_i32_222
  let v234 : BitVec 32 := Scalar.addi c0_i32_223 v233
  v234.toNat
def k0_dev10 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_250 : BitVec 32 := 1#32
  let v260 : BitVec 32 := Scalar.muli v14 c1_i32_250
  let v261 : BitVec 32 := Scalar.addi c0_i32_251 v260
  v261.toNat
def k0_dev11 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_278 : BitVec 32 := 1#32
  let v287 : BitVec 32 := Scalar.muli v25 c1_i32_278
  let v288 : BitVec 32 := Scalar.addi c0_i32_279 v287
  v288.toNat
def k0_dev12 (d0 : Dev nD) : Nat :=
  let c0_i32_307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_306 : BitVec 32 := 1#32
  let v314 : BitVec 32 := Scalar.muli v14 c1_i32_306
  let v315 : BitVec 32 := Scalar.addi c0_i32_307 v314
  v315.toNat
def k0_dev13 (d0 : Dev nD) : Nat :=
  let c0_i32_334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_333 : BitVec 32 := 1#32
  let v341 : BitVec 32 := Scalar.muli v25 c1_i32_333
  let v342 : BitVec 32 := Scalar.addi c0_i32_334 v341
  v342.toNat
def k0_dev14 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_361 : BitVec 32 := 1#32
  let v368 : BitVec 32 := Scalar.muli v14 c1_i32_361
  let v369 : BitVec 32 := Scalar.addi c0_i32_362 v368
  v369.toNat
def k0_dev15 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_388 : BitVec 32 := 1#32
  let v395 : BitVec 32 := Scalar.muli v25 c1_i32_388
  let v396 : BitVec 32 := Scalar.addi c0_i32_389 v395
  v396.toNat
def k0_dev16 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_416 : BitVec 32 := 1#32
  let v422 : BitVec 32 := Scalar.muli v14 c1_i32_416
  let v423 : BitVec 32 := Scalar.addi c0_i32_417 v422
  v423.toNat
def k0_dev17 (d0 : Dev nD) : Nat :=
  let c0_i32_444 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_443 : BitVec 32 := 1#32
  let v449 : BitVec 32 := Scalar.muli v25 c1_i32_443
  let v450 : BitVec 32 := Scalar.addi c0_i32_444 v449
  v450.toNat
def k0_dev18 (d0 : Dev nD) : Nat :=
  let c0_i32_472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_471 : BitVec 32 := 1#32
  let v476 : BitVec 32 := Scalar.muli v14 c1_i32_471
  let v477 : BitVec 32 := Scalar.addi c0_i32_472 v476
  v477.toNat
def k0_dev19 (d0 : Dev nD) : Nat :=
  let c0_i32_508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_507 : BitVec 32 := 1#32
  let v503 : BitVec 32 := Scalar.muli v14 c1_i32_507
  let v504 : BitVec 32 := Scalar.addi c0_i32_508 v503
  v504.toNat
def k0_off3 (d0 : Dev nD) (c0_i32_514 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v507 : BitVec 32 := Scalar.addi v2 c8_i32
  let c2_i32_513 : BitVec 32 := 2#32
  let v508 : BitVec 32 := Scalar.subi v507 c2_i32_513
  let v509 : BitVec 32 := Scalar.subi v508 c0_i32_514
  let c4_i32_515 : BitVec 32 := 4#32
  let c0_i32_516 : BitVec 32 := 0#32
  let v510 : BitVec 1 := Scalar.cmpi .eq c4_i32_515 c0_i32_516
  let c1_i32_517 : BitVec 32 := 1#32
  let v511 : BitVec 32 := Scalar.select v510 c1_i32_517 c4_i32_515
  let v512 : BitVec 32 := Scalar.remsi v509 v511
  let c0_i32_519 : BitVec 32 := 0#32
  let v514 : BitVec 1 := Scalar.cmpi .slt v512 c0_i32_519
  let c0_i32_520 : BitVec 32 := 0#32
  let v515 : BitVec 1 := Scalar.cmpi .slt v511 c0_i32_520
  let v516 : BitVec 1 := Scalar.xori v514 v515
  let c0_i32_518 : BitVec 32 := 0#32
  let v513 : BitVec 1 := Scalar.cmpi .ne v512 c0_i32_518
  let v517 : BitVec 1 := Scalar.andi v516 v513
  let v518 : BitVec 32 := Scalar.addi v512 v511
  let v519 : BitVec 32 := Scalar.select v517 v518 v512
  let c1024_i32_521 : BitVec 32 := 1024#32
  let v520 : BitVec 32 := Scalar.muli v519 c1024_i32_521
  let v521 : Index := Scalar.indexCast v520
  let c0_522 : Index := 0#32
  ![v521.toNat, 0]
def k0_dev20 (d0 : Dev nD) : Nat :=
  let c0_i32_553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_552 : BitVec 32 := 1#32
  let v542 : BitVec 32 := Scalar.muli v25 c1_i32_552
  let v543 : BitVec 32 := Scalar.addi c0_i32_553 v542
  v543.toNat
def k0_dev21 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_586 : BitVec 32 := 1#32
  let v566 : BitVec 32 := Scalar.muli v25 c1_i32_586
  let v567 : BitVec 32 := Scalar.addi c0_i32_587 v566
  v567.toNat
def k0_off4 (d0 : Dev nD) (c0_i32_593 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_592 : BitVec 32 := 2#32
  let v570 : BitVec 32 := Scalar.addi v2 c2_i32_592
  let v571 : BitVec 32 := Scalar.addi v570 c0_i32_593
  let c4_i32_594 : BitVec 32 := 4#32
  let c0_i32_595 : BitVec 32 := 0#32
  let v572 : BitVec 1 := Scalar.cmpi .eq c4_i32_594 c0_i32_595
  let c1_i32_596 : BitVec 32 := 1#32
  let v573 : BitVec 32 := Scalar.select v572 c1_i32_596 c4_i32_594
  let v574 : BitVec 32 := Scalar.remsi v571 v573
  let c0_i32_598 : BitVec 32 := 0#32
  let v576 : BitVec 1 := Scalar.cmpi .slt v574 c0_i32_598
  let c0_i32_599 : BitVec 32 := 0#32
  let v577 : BitVec 1 := Scalar.cmpi .slt v573 c0_i32_599
  let v578 : BitVec 1 := Scalar.xori v576 v577
  let c0_i32_597 : BitVec 32 := 0#32
  let v575 : BitVec 1 := Scalar.cmpi .ne v574 c0_i32_597
  let v579 : BitVec 1 := Scalar.andi v578 v575
  let v580 : BitVec 32 := Scalar.addi v574 v573
  let v581 : BitVec 32 := Scalar.select v579 v580 v574
  let c1024_i32_600 : BitVec 32 := 1024#32
  let v582 : BitVec 32 := Scalar.muli v581 c1024_i32_600
  let v583 : Index := Scalar.indexCast v582
  let c0_601 : Index := 0#32
  ![v583.toNat, 0]
def k0_dev22 (d0 : Dev nD) : Nat :=
  let c0_i32_632 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_631 : BitVec 32 := 1#32
  let v604 : BitVec 32 := Scalar.muli v14 c1_i32_631
  let v605 : BitVec 32 := Scalar.addi c0_i32_632 v604
  v605.toNat
def k0_dev23 (d0 : Dev nD) : Nat :=
  let c0_i32_666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_665 : BitVec 32 := 1#32
  let v628 : BitVec 32 := Scalar.muli v14 c1_i32_665
  let v629 : BitVec 32 := Scalar.addi c0_i32_666 v628
  v629.toNat
def k0_dev24 (d0 : Dev nD) : Nat :=
  let c0_i32_712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_711 : BitVec 32 := 1#32
  let v667 : BitVec 32 := Scalar.muli v25 c1_i32_711
  let v668 : BitVec 32 := Scalar.addi c0_i32_712 v667
  v668.toNat
def k0_dev25 (d0 : Dev nD) : Nat :=
  let c0_i32_746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_745 : BitVec 32 := 1#32
  let v691 : BitVec 32 := Scalar.muli v25 c1_i32_745
  let v692 : BitVec 32 := Scalar.addi c0_i32_746 v691
  v692.toNat
def k0_dev26 (d0 : Dev nD) : Nat :=
  let c0_i32_791 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_790 : BitVec 32 := 1#32
  let v729 : BitVec 32 := Scalar.muli v14 c1_i32_790
  let v730 : BitVec 32 := Scalar.addi c0_i32_791 v729
  v730.toNat
def k0_dev27 (d0 : Dev nD) : Nat :=
  let c0_i32_825 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_824 : BitVec 32 := 1#32
  let v753 : BitVec 32 := Scalar.muli v14 c1_i32_824
  let v754 : BitVec 32 := Scalar.addi c0_i32_825 v753
  v754.toNat
def k0_dev28 (d0 : Dev nD) : Nat :=
  let c0_i32_871 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_870 : BitVec 32 := 1#32
  let v792 : BitVec 32 := Scalar.muli v25 c1_i32_870
  let v793 : BitVec 32 := Scalar.addi c0_i32_871 v792
  v793.toNat
def k0_dev29 (d0 : Dev nD) : Nat :=
  let c0_i32_905 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_904 : BitVec 32 := 1#32
  let v816 : BitVec 32 := Scalar.muli v25 c1_i32_904
  let v817 : BitVec 32 := Scalar.addi c0_i32_905 v816
  v817.toNat
def k0_dev30 (d0 : Dev nD) : Nat :=
  let c0_i32_950 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_949 : BitVec 32 := 1#32
  let v854 : BitVec 32 := Scalar.muli v14 c1_i32_949
  let v855 : BitVec 32 := Scalar.addi c0_i32_950 v854
  v855.toNat
def k0_dev31 (d0 : Dev nD) : Nat :=
  let c0_i32_984 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_983 : BitVec 32 := 1#32
  let v878 : BitVec 32 := Scalar.muli v14 c1_i32_983
  let v879 : BitVec 32 := Scalar.addi c0_i32_984 v878
  v879.toNat
def k0_dev32 (d0 : Dev nD) : Nat :=
  let c0_i32_1030 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1029 : BitVec 32 := 1#32
  let v917 : BitVec 32 := Scalar.muli v25 c1_i32_1029
  let v918 : BitVec 32 := Scalar.addi c0_i32_1030 v917
  v918.toNat
def k0_dev33 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1063 : BitVec 32 := 1#32
  let v941 : BitVec 32 := Scalar.muli v25 c1_i32_1063
  let v942 : BitVec 32 := Scalar.addi c0_i32_1064 v941
  v942.toNat
def k0_dev34 (d0 : Dev nD) : Nat :=
  let c0_i32_1109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1108 : BitVec 32 := 1#32
  let v979 : BitVec 32 := Scalar.muli v14 c1_i32_1108
  let v980 : BitVec 32 := Scalar.addi c0_i32_1109 v979
  v980.toNat
def k0_dev35 (d0 : Dev nD) : Nat :=
  let c0_i32_1143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1142 : BitVec 32 := 1#32
  let v1003 : BitVec 32 := Scalar.muli v14 c1_i32_1142
  let v1004 : BitVec 32 := Scalar.addi c0_i32_1143 v1003
  v1004.toNat
def k0_dev36 (d0 : Dev nD) : Nat :=
  let c0_i32_1189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1188 : BitVec 32 := 1#32
  let v1042 : BitVec 32 := Scalar.muli v25 c1_i32_1188
  let v1043 : BitVec 32 := Scalar.addi c0_i32_1189 v1042
  v1043.toNat
def k0_dev37 (d0 : Dev nD) : Nat :=
  let c0_i32_1223 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1222 : BitVec 32 := 1#32
  let v1066 : BitVec 32 := Scalar.muli v25 c1_i32_1222
  let v1067 : BitVec 32 := Scalar.addi c0_i32_1223 v1066
  v1067.toNat
def k0_dev38 (d0 : Dev nD) : Nat :=
  let c0_i32_1268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1267 : BitVec 32 := 1#32
  let v1104 : BitVec 32 := Scalar.muli v14 c1_i32_1267
  let v1105 : BitVec 32 := Scalar.addi c0_i32_1268 v1104
  v1105.toNat
def k0_dev39 (d0 : Dev nD) : Nat :=
  let c0_i32_1302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1301 : BitVec 32 := 1#32
  let v1128 : BitVec 32 := Scalar.muli v14 c1_i32_1301
  let v1129 : BitVec 32 := Scalar.addi c0_i32_1302 v1128
  v1129.toNat
def k0_dev40 (d0 : Dev nD) : Nat :=
  let c0_i32_1348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1347 : BitVec 32 := 1#32
  let v1167 : BitVec 32 := Scalar.muli v25 c1_i32_1347
  let v1168 : BitVec 32 := Scalar.addi c0_i32_1348 v1167
  v1168.toNat
def k0_dev41 (d0 : Dev nD) : Nat :=
  let c0_i32_1382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1381 : BitVec 32 := 1#32
  let v1191 : BitVec 32 := Scalar.muli v25 c1_i32_1381
  let v1192 : BitVec 32 := Scalar.addi c0_i32_1382 v1191
  v1192.toNat
def k0_dev42 (d0 : Dev nD) : Nat :=
  let c0_i32_1427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1426 : BitVec 32 := 1#32
  let v1229 : BitVec 32 := Scalar.muli v14 c1_i32_1426
  let v1230 : BitVec 32 := Scalar.addi c0_i32_1427 v1229
  v1230.toNat
def k0_dev43 (d0 : Dev nD) : Nat :=
  let c0_i32_1461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1460 : BitVec 32 := 1#32
  let v1253 : BitVec 32 := Scalar.muli v14 c1_i32_1460
  let v1254 : BitVec 32 := Scalar.addi c0_i32_1461 v1253
  v1254.toNat
def k0_dev44 (d0 : Dev nD) : Nat :=
  let c0_i32_1507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1506 : BitVec 32 := 1#32
  let v1292 : BitVec 32 := Scalar.muli v25 c1_i32_1506
  let v1293 : BitVec 32 := Scalar.addi c0_i32_1507 v1292
  v1293.toNat
def k0_dev45 (d0 : Dev nD) : Nat :=
  let c0_i32_1541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1540 : BitVec 32 := 1#32
  let v1316 : BitVec 32 := Scalar.muli v25 c1_i32_1540
  let v1317 : BitVec 32 := Scalar.addi c0_i32_1541 v1316
  v1317.toNat
def k0_dev46 (d0 : Dev nD) : Nat :=
  let c0_i32_1586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1585 : BitVec 32 := 1#32
  let v1354 : BitVec 32 := Scalar.muli v14 c1_i32_1585
  let v1355 : BitVec 32 := Scalar.addi c0_i32_1586 v1354
  v1355.toNat
def k0_dev47 (d0 : Dev nD) : Nat :=
  let c0_i32_1620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1619 : BitVec 32 := 1#32
  let v1378 : BitVec 32 := Scalar.muli v14 c1_i32_1619
  let v1379 : BitVec 32 := Scalar.addi c0_i32_1620 v1378
  v1379.toNat
def k0_dev48 (d0 : Dev nD) : Nat :=
  let c0_i32_1666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1665 : BitVec 32 := 1#32
  let v1417 : BitVec 32 := Scalar.muli v25 c1_i32_1665
  let v1418 : BitVec 32 := Scalar.addi c0_i32_1666 v1417
  v1418.toNat
def k0_dev49 (d0 : Dev nD) : Nat :=
  let c0_i32_1700 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1699 : BitVec 32 := 1#32
  let v1441 : BitVec 32 := Scalar.muli v25 c1_i32_1699
  let v1442 : BitVec 32 := Scalar.addi c0_i32_1700 v1441
  v1442.toNat
def k0_dev50 (d0 : Dev nD) : Nat :=
  let c0_i32_1745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1744 : BitVec 32 := 1#32
  let v1479 : BitVec 32 := Scalar.muli v14 c1_i32_1744
  let v1480 : BitVec 32 := Scalar.addi c0_i32_1745 v1479
  v1480.toNat
def k0_dev51 (d0 : Dev nD) : Nat :=
  let c0_i32_1779 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1778 : BitVec 32 := 1#32
  let v1503 : BitVec 32 := Scalar.muli v14 c1_i32_1778
  let v1504 : BitVec 32 := Scalar.addi c0_i32_1779 v1503
  v1504.toNat
def k0_dev52 (d0 : Dev nD) : Nat :=
  let c0_i32_1825 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1824 : BitVec 32 := 1#32
  let v1542 : BitVec 32 := Scalar.muli v25 c1_i32_1824
  let v1543 : BitVec 32 := Scalar.addi c0_i32_1825 v1542
  v1543.toNat
def k0_dev53 (d0 : Dev nD) : Nat :=
  let c0_i32_1859 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1858 : BitVec 32 := 1#32
  let v1566 : BitVec 32 := Scalar.muli v25 c1_i32_1858
  let v1567 : BitVec 32 := Scalar.addi c0_i32_1859 v1566
  v1567.toNat
def k0_dev54 (d0 : Dev nD) : Nat :=
  let c0_i32_1904 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1903 : BitVec 32 := 1#32
  let v1604 : BitVec 32 := Scalar.muli v14 c1_i32_1903
  let v1605 : BitVec 32 := Scalar.addi c0_i32_1904 v1604
  v1605.toNat
def k0_dev55 (d0 : Dev nD) : Nat :=
  let c0_i32_1938 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1937 : BitVec 32 := 1#32
  let v1628 : BitVec 32 := Scalar.muli v14 c1_i32_1937
  let v1629 : BitVec 32 := Scalar.addi c0_i32_1938 v1628
  v1629.toNat
def k0_dev56 (d0 : Dev nD) : Nat :=
  let c0_i32_1984 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1983 : BitVec 32 := 1#32
  let v1667 : BitVec 32 := Scalar.muli v25 c1_i32_1983
  let v1668 : BitVec 32 := Scalar.addi c0_i32_1984 v1667
  v1668.toNat
def k0_dev57 (d0 : Dev nD) : Nat :=
  let c0_i32_2018 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2017 : BitVec 32 := 1#32
  let v1691 : BitVec 32 := Scalar.muli v25 c1_i32_2017
  let v1692 : BitVec 32 := Scalar.addi c0_i32_2018 v1691
  v1692.toNat
def k0_dev58 (d0 : Dev nD) : Nat :=
  let c0_i32_2063 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2062 : BitVec 32 := 1#32
  let v1729 : BitVec 32 := Scalar.muli v14 c1_i32_2062
  let v1730 : BitVec 32 := Scalar.addi c0_i32_2063 v1729
  v1730.toNat
def k0_dev59 (d0 : Dev nD) : Nat :=
  let c0_i32_2097 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2096 : BitVec 32 := 1#32
  let v1753 : BitVec 32 := Scalar.muli v14 c1_i32_2096
  let v1754 : BitVec 32 := Scalar.addi c0_i32_2097 v1753
  v1754.toNat
def k0_dev60 (d0 : Dev nD) : Nat :=
  let c0_i32_2143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2142 : BitVec 32 := 1#32
  let v1792 : BitVec 32 := Scalar.muli v25 c1_i32_2142
  let v1793 : BitVec 32 := Scalar.addi c0_i32_2143 v1792
  v1793.toNat
def k0_dev61 (d0 : Dev nD) : Nat :=
  let c0_i32_2177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2176 : BitVec 32 := 1#32
  let v1816 : BitVec 32 := Scalar.muli v25 c1_i32_2176
  let v1817 : BitVec 32 := Scalar.addi c0_i32_2177 v1816
  v1817.toNat
def k0_dev62 (d0 : Dev nD) : Nat :=
  let c0_i32_2222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2221 : BitVec 32 := 1#32
  let v1854 : BitVec 32 := Scalar.muli v14 c1_i32_2221
  let v1855 : BitVec 32 := Scalar.addi c0_i32_2222 v1854
  v1855.toNat
def k0_dev63 (d0 : Dev nD) : Nat :=
  let c0_i32_2256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2255 : BitVec 32 := 1#32
  let v1878 : BitVec 32 := Scalar.muli v14 c1_i32_2255
  let v1879 : BitVec 32 := Scalar.addi c0_i32_2256 v1878
  v1879.toNat
def k0_dev64 (d0 : Dev nD) : Nat :=
  let c0_i32_2302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2301 : BitVec 32 := 1#32
  let v1917 : BitVec 32 := Scalar.muli v25 c1_i32_2301
  let v1918 : BitVec 32 := Scalar.addi c0_i32_2302 v1917
  v1918.toNat
def k0_dev65 (d0 : Dev nD) : Nat :=
  let c0_i32_2336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2335 : BitVec 32 := 1#32
  let v1941 : BitVec 32 := Scalar.muli v25 c1_i32_2335
  let v1942 : BitVec 32 := Scalar.addi c0_i32_2336 v1941
  v1942.toNat
def k0_dev66 (d0 : Dev nD) : Nat :=
  let c0_i32_2381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2380 : BitVec 32 := 1#32
  let v1979 : BitVec 32 := Scalar.muli v14 c1_i32_2380
  let v1980 : BitVec 32 := Scalar.addi c0_i32_2381 v1979
  v1980.toNat
def k0_dev67 (d0 : Dev nD) : Nat :=
  let c0_i32_2415 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2414 : BitVec 32 := 1#32
  let v2003 : BitVec 32 := Scalar.muli v14 c1_i32_2414
  let v2004 : BitVec 32 := Scalar.addi c0_i32_2415 v2003
  v2004.toNat
def k0_dev68 (d0 : Dev nD) : Nat :=
  let c0_i32_2461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2460 : BitVec 32 := 1#32
  let v2042 : BitVec 32 := Scalar.muli v25 c1_i32_2460
  let v2043 : BitVec 32 := Scalar.addi c0_i32_2461 v2042
  v2043.toNat
def k0_dev69 (d0 : Dev nD) : Nat :=
  let c0_i32_2495 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2494 : BitVec 32 := 1#32
  let v2066 : BitVec 32 := Scalar.muli v25 c1_i32_2494
  let v2067 : BitVec 32 := Scalar.addi c0_i32_2495 v2066
  v2067.toNat
def k0_dev70 (d0 : Dev nD) : Nat :=
  let c0_i32_2540 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2539 : BitVec 32 := 1#32
  let v2104 : BitVec 32 := Scalar.muli v14 c1_i32_2539
  let v2105 : BitVec 32 := Scalar.addi c0_i32_2540 v2104
  v2105.toNat
def k0_dev71 (d0 : Dev nD) : Nat :=
  let c0_i32_2574 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2573 : BitVec 32 := 1#32
  let v2128 : BitVec 32 := Scalar.muli v14 c1_i32_2573
  let v2129 : BitVec 32 := Scalar.addi c0_i32_2574 v2128
  v2129.toNat
def k0_dev72 (d0 : Dev nD) : Nat :=
  let c0_i32_2620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2619 : BitVec 32 := 1#32
  let v2167 : BitVec 32 := Scalar.muli v25 c1_i32_2619
  let v2168 : BitVec 32 := Scalar.addi c0_i32_2620 v2167
  v2168.toNat
def k0_dev73 (d0 : Dev nD) : Nat :=
  let c0_i32_2654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2653 : BitVec 32 := 1#32
  let v2191 : BitVec 32 := Scalar.muli v25 c1_i32_2653
  let v2192 : BitVec 32 := Scalar.addi c0_i32_2654 v2191
  v2192.toNat
def k0_dev74 (d0 : Dev nD) : Nat :=
  let c0_i32_2699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2698 : BitVec 32 := 1#32
  let v2229 : BitVec 32 := Scalar.muli v14 c1_i32_2698
  let v2230 : BitVec 32 := Scalar.addi c0_i32_2699 v2229
  v2230.toNat
def k0_dev75 (d0 : Dev nD) : Nat :=
  let c0_i32_2733 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2732 : BitVec 32 := 1#32
  let v2253 : BitVec 32 := Scalar.muli v14 c1_i32_2732
  let v2254 : BitVec 32 := Scalar.addi c0_i32_2733 v2253
  v2254.toNat
def k0_dev76 (d0 : Dev nD) : Nat :=
  let c0_i32_2779 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2778 : BitVec 32 := 1#32
  let v2292 : BitVec 32 := Scalar.muli v25 c1_i32_2778
  let v2293 : BitVec 32 := Scalar.addi c0_i32_2779 v2292
  v2293.toNat
def k0_dev77 (d0 : Dev nD) : Nat :=
  let c0_i32_2813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2812 : BitVec 32 := 1#32
  let v2316 : BitVec 32 := Scalar.muli v25 c1_i32_2812
  let v2317 : BitVec 32 := Scalar.addi c0_i32_2813 v2316
  v2317.toNat
def k0_dev78 (d0 : Dev nD) : Nat :=
  let c0_i32_2858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2857 : BitVec 32 := 1#32
  let v2354 : BitVec 32 := Scalar.muli v14 c1_i32_2857
  let v2355 : BitVec 32 := Scalar.addi c0_i32_2858 v2354
  v2355.toNat
def k0_dev79 (d0 : Dev nD) : Nat :=
  let c0_i32_2892 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2891 : BitVec 32 := 1#32
  let v2378 : BitVec 32 := Scalar.muli v14 c1_i32_2891
  let v2379 : BitVec 32 := Scalar.addi c0_i32_2892 v2378
  v2379.toNat
def k0_dev80 (d0 : Dev nD) : Nat :=
  let c0_i32_2938 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2937 : BitVec 32 := 1#32
  let v2417 : BitVec 32 := Scalar.muli v25 c1_i32_2937
  let v2418 : BitVec 32 := Scalar.addi c0_i32_2938 v2417
  v2418.toNat
def k0_dev81 (d0 : Dev nD) : Nat :=
  let c0_i32_2972 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2971 : BitVec 32 := 1#32
  let v2441 : BitVec 32 := Scalar.muli v25 c1_i32_2971
  let v2442 : BitVec 32 := Scalar.addi c0_i32_2972 v2441
  v2442.toNat
def k0_dev82 (d0 : Dev nD) : Nat :=
  let c0_i32_3017 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3016 : BitVec 32 := 1#32
  let v2479 : BitVec 32 := Scalar.muli v14 c1_i32_3016
  let v2480 : BitVec 32 := Scalar.addi c0_i32_3017 v2479
  v2480.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_3053 : BitVec 32 := 1024#32
  let v2505 : BitVec 32 := Scalar.muli v2 c1024_i32_3053
  let v2506 : Index := Scalar.indexCast v2505
  let c0_3054 : Index := 0#32
  ![v2506.toNat, 0]
abbrev stage0_0 : Fin 1 → Memref sig .tc .vmem S4096x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
variable {F : FTy → Type} [FloatOps F] [Named F]
def κ : String → Option EReal := fun
  | "clip_hi" => some ⊤
  | "clip_lo" => some ⊥
  | _ => none
-- ==== Reference.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 14
  | .vmem => 2
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .i8⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Blocks.lean ====
/- The kernel body cut into its blocks: the barrier, the first partial products, the two ring steps, the
   last step — each stated once for any piece of any ring, and the printed body as their sequence. -/
module

public import proofs.«01_k».proof.Proof.Gen.KernelIdeal
public import Idealize.ShloMosaic.Lib.Pipeline.Regions

@[expose] public section

set_option maxRecDepth 10000

namespace Cert.KernelIdeal.Own

open Idealize.ShloMosaic Idealize.SL.Sem
open Cert.KernelIdeal.Gen

variable {F : FTy → Type} [FloatOps F]

/-- A program of the kernel on the tensor core. -/
abbrev BProg (F : FTy → Type) := Prog (TpuEff nD τ sig (Elt F) Λ₀ .tc)

theorem inb_slot (q : Fin 2) (p : Fin 8) :
    ∀ a, (![q.val, p.val, 0, 0] : Fin 4 → Nat) a + S1x1x1024x512.size a ≤ S2x8x1024x512.size a := by
  revert q p; decide
theorem words_slot (q : Fin 2) (p : Fin 8) :
    (Rect.unit (s := S2x8x1024x512) ![q.val, p.val, 0, 0] S1x1x1024x512.size (inb_slot q p)).WholeWords
      (EltTy.packing .bf16) := by
  revert q p; decide
theorem inb_cell (q : Fin 2) (p : Fin 8) :
    ∀ a, (![q.val, p.val] : Fin 2 → Nat) a + S1x1.size a ≤ S2x8.size a := by
  revert q p; decide
/-- The first column of piece `p` of ring `r`: ring 0 works on columns 0..4095, ring 1 on 4096..8191. -/
abbrev col (r : Fin 2) (p : Fin 8) : Nat := 4096 * r.val + 512 * p.val
theorem inb_col (r : Fin 2) (p : Fin 8) :
    ∀ a, (![0, col r p] : Fin 2 → Nat) a + S1024x512.size a ≤ S1024x8192.size a := by
  revert r p; decide

/-- Slot `(q, p)` of a ring's exchange buffer, as a matrix. -/
def slotV (cm : Memref sig .tc .hbm S2x8x1024x512 .bf16) (q : Fin 2) (p : Fin 8) :
    Memref sig .tc .hbm S1024x512 .bf16 :=
  (cm.slice (Rect.unit (s := S2x8x1024x512) ![q.val, p.val, 0, 0] S1x1x1024x512.size (inb_slot q p))
    (fun _ => rfl)).squeeze S1024x512 squeezes_S1x1x1024x512_S1024x512
theorem slotV_words {cm : Memref sig .tc .hbm S2x8x1024x512 .bf16} (h : cm.IsWhole) (q : Fin 2) (p : Fin 8) :
    (slotV cm q p).view.WordExact :=
  (h.wordExact_slice rfl _ (words_slot q p)).reshape _ _

/-- Cell `(q, p)` of an array of transfer semaphores. -/
def cellV (S : DmaSems sig S2x8) (q : Fin 2) (p : Fin 8) : DmaSem sig :=
  ((S.slice (Rect.unit (s := S2x8) ![q.val, p.val] S1x1.size (inb_cell q p))).squeeze S_ squeezes_S1x1_S_).sem

/-- Piece `p` of ring `r` of the result. -/
def outV (o : Memref sig .tc .hbm S1024x8192 .f32) (r : Fin 2) (p : Fin 8) : Memref sig .tc .hbm S1024x512 .f32 :=
  o.slice (Rect.unit (s := S1024x8192) ![0, col r p] S1024x512.size (inb_col r p)) (fun _ => rfl)

/-- The partial product of a block of rows and a block of columns. -/
def gemm (a : Vec F S1024x1024 .i8) (b : Vec F S1024x512 .i8) : FVec F S1024x512 .f32 :=
  matmul dot_S1024x1024_S1024x512_S1024x512_1_0_0_1_n_n none
    (sitofp .bf16 (shapeCast S1024x1024 a shapeCasts_S1024x1024_S1024x1024 : IVec S1024x1024 8))
    (sitofp .bf16 (shapeCast S1024x512 b shapeCasts_S1024x512_S1024x512 : IVec S1024x512 8))
    (constant S1024x512 .f32 0x00000000#32)

/-- What the first block stores. -/
def pay0 (a : Vec F S1024x1024 .i8) (b : Vec F S1024x512 .i8) : FVec F S1024x512 .bf16 :=
  shapeCast S1024x512 (truncf .bf16 (gemm a b) bitsLt_bf16_f32 : FVec F S1024x512 .bf16)
    shapeCasts_S1024x512_S1024x512
/-- What a ring step stores: the partial product added to what came in. -/
def pay1 (a : Vec F S1024x1024 .i8) (b : Vec F S1024x512 .i8) (v : Vec F S1024x512 .bf16) :
    FVec F S1024x512 .bf16 :=
  shapeCast S1024x512 (truncf .bf16 (addf (gemm a b) (extf .f32 v bitsLt_bf16_f32)) bitsLt_bf16_f32
    : FVec F S1024x512 .bf16) shapeCasts_S1024x512_S1024x512
/-- The last step's sum, scaled. -/
def preact (sc : F .f32) (a : Vec F S1024x1024 .i8) (b : Vec F S1024x512 .i8) (v : Vec F S1024x512 .bf16) :
    FVec F S1024x512 .f32 :=
  mulf (addf (gemm a b) (extf .f32 v bitsLt_bf16_f32)) (broadcast S1024x512 sc)
/-- What the last step stores. -/
def pay2 (sc : F .f32) (a : Vec F S1024x1024 .i8) (b : Vec F S1024x512 .i8) (v : Vec F S1024x512 .bf16) :
    FVec F S1024x512 .f32 :=
  shapeCast S1024x512 (mulf (preact sc a b v) (logistic (preact sc a b v))) shapeCasts_S1024x512_S1024x512

section
variable (x : Memref sig .tc .vmem S4096x1024 .i8) (w : Memref sig .tc .vmem S1024x8192 .i8)
  (o : Memref sig .tc .hbm S1024x8192 .f32)
  (cm : Memref sig .tc .hbm S2x8x1024x512 .bf16) (hcm : cm.IsWhole)
  (st : Memref sig .tc .vmem S1024x512 .bf16) (hst : st.IsWhole)
  (ac : Memref sig .tc .vmem S1024x512 .bf16) (hac : ac.IsWhole)
  (ob : Memref sig .tc .vmem S1024x512 .f32) (hob : ob.IsWhole)
  (sS sR : DmaSems sig S2x8) (lc : DmaSem sig) (cr : Sem sig)
  (xo : Fin 2 → Nat) (hxo : ∀ a, xo a + S1024x1024.size a ≤ S4096x1024.size a)
  (n u : Dev nD) (r q q' : Fin 2) (p : Fin 8)

/-- Load the block of rows the step multiplies, and the piece's columns. -/
def loadX : BProg F (Vec F S1024x1024 .i8) :=
  Prog.lift (.load x (Rect.unit (s := S4096x1024) xo S1024x1024.size hxo).toLoadRect (View.loadsAt_vmem h_S1024x1024))
def loadW : BProg F (Vec F S1024x512 .i8) :=
  Prog.lift (.load w (Rect.unit (s := S1024x8192) ![0, col r p] S1024x512.size (inb_col r p)).toLoadRect
    (View.loadsAt_vmem h_S1024x512))
/-- Load a whole block buffer. -/
def loadB {e : EltTy} (b : Memref sig .tc .vmem S1024x512 e) : BProg F (Vec F S1024x512 e) :=
  Prog.lift (.load b (Rect.unit (s := S1024x512) ![0, 0] S1024x512.size inb_S1024x512_S1024x512_0_0).toLoadRect
    (View.loadsAt_vmem h_S1024x512))

/-- Store the accumulator block and copy it into slot `(q, p)`. -/
def putAcc (v : FVec F S1024x512 .bf16) : BProg F PUnit := do
  let _ ← loadB (F := F) ac
  Prog.lift (.store ac (Rect.unit (s := S1024x512) ![0, 0] S1024x512.size inb_S1024x512_S1024x512_0_0) v Finset.univ
    (View.stores_vmem h_S1024x512 (hac.storeExact_slice rfl _ packedbf16_S1024x512_S1024x512_0_0) (fun _ => rfl)) (.inl rfl))
  Prog.lift (.enqueueDma ac (.here (slotV cm q p)) (.dma lc) hac.wordExact (slotV_words hcm q p) ⟨Or.inl rfl, trivial⟩)
  Prog.lift (.waitDma2 lc ac (slotV cm q p) hac.wordExact (slotV_words hcm q p))

/-- Send slot `(q, p)` to device `n`, into its slot `(q', p)`. -/
def sendSlot : BProg F PUnit :=
  Prog.lift (.enqueueDma (slotV cm q p) (.remote (Dev.tc n) (slotV cm q' p) (.dma (cellV sS q p)))
    (.dma (cellV sR q' p)) (slotV_words hcm q p) (slotV_words hcm q' p) ⟨⟨rfl, Or.inl rfl⟩, trivial⟩)

/-- The first block of piece `p`: the first partial product into slot `(0, p)`, sent on. -/
def init : BProg F PUnit := do
  let a ← loadX (F := F) x xo hxo
  let b ← loadW (F := F) w r p
  putAcc cm hcm ac hac lc 0 p (pay0 a b)
  sendSlot cm hcm sS sR n 0 1 p

/-- Wait for what arrives in slot `(q, p)`, and for the own send out of slot `(q', p)` to be done with it. -/
def recv : BProg F PUnit := do
  Prog.lift (.waitDma2 (cellV sR q p) (slotV cm q' p) (slotV cm q p) (slotV_words hcm q' p) (slotV_words hcm q p))
  Prog.lift (.waitDma2 (cellV sS q' p) (slotV cm q p) (slotV cm q' p) (slotV_words hcm q p) (slotV_words hcm q' p))

/-- Copy slot `(q, p)` into the staging block (start, and wait). -/
def stageStart : BProg F PUnit :=
  Prog.lift (.enqueueDma (slotV cm q p) (.here st) (.dma lc) (slotV_words hcm q p) hst.wordExact ⟨Or.inl rfl, trivial⟩)
def stageWait : BProg F PUnit :=
  Prog.lift (.waitDma2 lc (slotV cm q p) st (slotV_words hcm q p) hst.wordExact)

/-- A ring step on piece `p`: what arrived in slot `(q, p)` plus this device's partial product, sent on. -/
def step : BProg F PUnit := do
  recv (F := F) cm hcm sS sR q q' p
  semSignalWord u cr 1#32
  stageStart cm hcm st hst lc q p
  let a ← loadX (F := F) x xo hxo
  let b ← loadW (F := F) w r p
  stageWait cm hcm st hst lc q p
  let v ← loadB (F := F) st
  putAcc cm hcm ac hac lc q p (pay1 a b v)
  semWaitWord cr 1#32
  sendSlot cm hcm sS sR n q q' p

/-- The last step on piece `p`: the finished block into the result. -/
def fin (sc : F .f32) : BProg F PUnit := do
  recv (F := F) cm hcm sS sR 1 0 p
  stageStart cm hcm st hst lc 1 p
  let a ← loadX (F := F) x xo hxo
  let b ← loadW (F := F) w r p
  stageWait cm hcm st hst lc 1 p
  let v ← loadB (F := F) st
  let _ ← loadB (F := F) ob
  Prog.lift (.store ob (Rect.unit (s := S1024x512) ![0, 0] S1024x512.size inb_S1024x512_S1024x512_0_0) (pay2 sc a b v)
    Finset.univ (View.stores_vmem_bits_univ h_S1024x512 rfl) (.inl rfl))
  Prog.lift (.enqueueDma ob (.here (outV o r p)) (.dma lc) hob.wordExact (View.wordExact_bits rfl) ⟨Or.inl rfl, trivial⟩)
  Prog.lift (.waitDma2 lc ob (outV o r p) hob.wordExact (View.wordExact_bits rfl))

end

/-- One program per piece, in order, then `k`. -/
def pieces (f : Fin 8 → BProg F PUnit) (k : BProg F PUnit) : List (Fin 8) → BProg F PUnit
  | [] => k
  | p :: ps => f p >>= fun _ => pieces f k ps

/-- The pieces in the order the kernel takes them. -/
abbrev ps8 : List (Fin 8) := [0, 1, 2, 3, 4, 5, 6, 7]

theorem body_eq (arg0 : Memref sig .tc .vmem S4096x1024 .i8) (harg0 : arg0.IsWhole) (arg1 : Memref sig .tc .vmem S1024x8192 .i8) (harg1 : arg1.IsWhole) (arg2 : Memref sig .tc .smem S1 .f32) (harg2 : arg2.IsWhole) (arg3 : Memref sig .tc .smem S1 .f32) (harg3 : arg3.IsWhole) (arg4 : Memref sig .tc .hbm S1024x8192 .f32) (harg4 : arg4.IsWhole) (arg5 : Memref sig .tc .hbm S2x8x1024x512 .bf16) (harg5 : arg5.IsWhole) (arg6 : Memref sig .tc .hbm S2x8x1024x512 .bf16) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .f32) (harg9 : arg9.IsWhole) (arg10 : DmaSems sig S2x8) (arg11 : DmaSems sig S2x8) (arg12 : DmaSems sig S2x8) (arg13 : DmaSems sig S2x8) (arg14 : DmaSems sig S_) (arg15 : Sems sig S_) (arg16 : Sems sig S_) :
    cc0_body (F := F) arg0 harg0 arg1 harg1 arg2 harg2 arg3 harg3 arg4 harg4 arg5 harg5 arg6 harg6 arg7 harg7 arg8 harg8 arg9 harg9 arg10 arg11 arg12 arg13 arg14 arg15 arg16
    = (Prog.lift .deviceId >>= fun d0 : Dev nD =>
        semSignalWord (⟨k0_dev1 d0, k0_dev1_lt d0⟩ : Dev nD) (SemArray.scalar (sig.barrier 0 rfl) : Sems sig S_).sem 1#32 >>= fun _ =>
        semSignalWord (⟨k0_dev2 d0, k0_dev2_lt d0⟩ : Dev nD) (SemArray.scalar (sig.barrier 0 rfl) : Sems sig S_).sem 1#32 >>= fun _ =>
        semWaitWord (SemArray.scalar (sig.barrier 0 rfl) : Sems sig S_).sem 2#32 >>= fun _ =>
        pieces (fun p =>
          init arg0 arg1 arg5 harg5 arg8 harg8 arg10 arg11 arg14.sem (k0_off1 d0) (k0_off1_inb d0)
            ⟨k0_dev3 d0, k0_dev3_lt d0⟩ 0 p >>= fun _ =>
          init arg0 arg1 arg6 harg6 arg8 harg8 arg12 arg13 arg14.sem (k0_off2 d0) (k0_off2_inb d0)
            ⟨k0_dev4 d0, k0_dev4_lt d0⟩ 1 p)
        (smemLoad arg2 (Rect.unit (s := S1) ![0] S1.size inb_S1_S1_0) numel1_S1 rfl >>= fun s1 : F .f32 =>
         smemLoad arg3 (Rect.unit (s := S1) ![0] S1.size inb_S1_S1_0) numel1_S1 rfl >>= fun s2 : F .f32 =>
         pieces (fun p =>
          step arg0 arg1 arg5 harg5 arg7 harg7 arg8 harg8 arg10 arg11 arg14.sem arg15.sem (k0_off3 d0 0#32) (k0_off3_inb d0 0)
            ⟨k0_dev3 d0, k0_dev3_lt d0⟩ ⟨k0_dev1 d0, k0_dev1_lt d0⟩ 0 1 0 p >>= fun _ =>
          step arg0 arg1 arg6 harg6 arg7 harg7 arg8 harg8 arg12 arg13 arg14.sem arg16.sem (k0_off4 d0 0#32) (k0_off4_inb d0 0)
            ⟨k0_dev4 d0, k0_dev4_lt d0⟩ ⟨k0_dev2 d0, k0_dev2_lt d0⟩ 1 1 0 p)
         (pieces (fun p =>
          step arg0 arg1 arg5 harg5 arg7 harg7 arg8 harg8 arg10 arg11 arg14.sem arg15.sem (k0_off3 d0 1#32) (k0_off3_inb d0 1)
            ⟨k0_dev3 d0, k0_dev3_lt d0⟩ ⟨k0_dev1 d0, k0_dev1_lt d0⟩ 0 0 1 p >>= fun _ =>
          step arg0 arg1 arg6 harg6 arg7 harg7 arg8 harg8 arg12 arg13 arg14.sem arg16.sem (k0_off4 d0 1#32) (k0_off4_inb d0 1)
            ⟨k0_dev4 d0, k0_dev4_lt d0⟩ ⟨k0_dev2 d0, k0_dev2_lt d0⟩ 1 0 1 p)
          (pieces (fun p =>
            fin arg0 arg1 arg4 arg5 harg5 arg7 harg7 arg9 harg9 arg10 arg11 arg14.sem (k0_off5 d0) (k0_off5_inb d0) 0 p
              (Scalar.mulf s1 s2) >>= fun _ =>
            fin arg0 arg1 arg4 arg6 harg6 arg7 harg7 arg9 harg9 arg12 arg13 arg14.sem (k0_off5 d0) (k0_off5_inb d0) 1 p
              (Scalar.mulf s1 s2))
           (pure ⟨⟩) ps8) ps8) ps8) ps8) := by
  chain_rfl

end Cert.KernelIdeal.Own

end
-- ==== Proof.Protocol.lean ====
/- The exchange between the devices, written down: which device each ring sends to, the cells, what every
   slot holds after every stage, the rounds of each cell and what they hand over, and what a device owes. -/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Release
public import Idealize.ShloMosaic.Lib.Transfers
public import Idealize.ShloMosaic.Lib.Tactic

@[expose] public section

set_option maxRecDepth 10000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! ## Ghost state -/

/-- A slot that is handed back and forth: the device it lies on, its ring, its half and its piece. -/
abbrev Key := Dev nD × Fin 2 × Fin 2 × Fin 8

abbrev UB := URounds (GSem nD τ sig) ℕ
abbrev US := Release.USlots Key
abbrev UU := UR sig nD τ × (UB × (US × Counters))

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) :=
  (Emb.inl : Emb UB (UB × (US × Counters))).trans (embR (A := UR sig nD τ))
abbrev ES : Emb US (MT nD τ sig ℕ (Elt F) ℕ UU ℕ) :=
  ((Emb.inl : Emb US (US × Counters)).trans (Emb.inr : Emb (US × Counters) (UB × (US × Counters)))).trans
    (embR (A := UR sig nD τ))
abbrev EC : UEmb Counters (MT nD τ sig ℕ (Elt F) ℕ UU ℕ) := countersEmb

variable (m : (ℓ : Loc nD τ sig) → Buf (Elt F) ℓ)

/-! ## The two rings -/

/-- The device ring `r` sends to from `d`: the right neighbour on ring 0, the left one on ring 1. -/
def dnD : Fin 2 → Dev nD → Dev nD
  | 0, d => ⟨k0_dev3 d, k0_dev3_lt d⟩
  | 1, d => ⟨k0_dev4 d, k0_dev4_lt d⟩
/-- The device ring `r` receives from at `d`. -/
def upD : Fin 2 → Dev nD → Dev nD
  | 0, d => ⟨k0_dev1 d, k0_dev1_lt d⟩
  | 1, d => ⟨k0_dev2 d, k0_dev2_lt d⟩

theorem up_dn (r : Fin 2) (d : Dev nD) : upD r (dnD r d) = d := by revert r d; decide
theorem dn_up (r : Fin 2) (d : Dev nD) : dnD r (upD r d) = d := by revert r d; decide

/-- The first row of the block device `d` multiplies at stage `t` on ring `r`. -/
def xo : Fin 2 → ℕ → Dev nD → (Fin 2 → ℕ)
  | 0, 0, d => k0_off1 d
  | 1, 0, d => k0_off2 d
  | 0, 1, d => k0_off3 d 0#32
  | 1, 1, d => k0_off4 d 0#32
  | 0, 2, d => k0_off3 d 1#32
  | 1, 2, d => k0_off4 d 1#32
  | _, _, d => k0_off5 d

theorem xo_inb (r : Fin 2) (t : ℕ) (d : Dev nD) : ∀ a, xo r t d a + S1024x1024.size a ≤ S4096x1024.size a := by
  match r, t with
  | 0, 0 => exact k0_off1_inb d
  | 1, 0 => exact k0_off2_inb d
  | 0, 1 => exact k0_off3_inb d 0
  | 1, 1 => exact k0_off4_inb d 0
  | 0, 2 => exact k0_off3_inb d 1
  | 1, 2 => exact k0_off4_inb d 1
  | 0, _ + 3 => exact k0_off5_inb d
  | 1, _ + 3 => exact k0_off5_inb d

/-! ## Memrefs and cells -/

abbrev xM : Memref sig .tc .vmem S4096x1024 .i8 := Memref.whole cc0_stg0_0
abbrev wM : Memref sig .tc .vmem S1024x8192 .i8 := Memref.whole cc0_stg1_0
abbrev oM : Memref sig .tc .hbm S1024x8192 .f32 := Memref.whole main_v1_0
abbrev stM : Memref sig .tc .vmem S1024x512 .bf16 := Memref.whole cc0_scratch0
abbrev acM : Memref sig .tc .vmem S1024x512 .bf16 := Memref.whole cc0_scratch1
abbrev obM : Memref sig .tc .vmem S1024x512 .f32 := Memref.whole cc0_scratch2
/-- The exchange buffer of ring `r`. -/
def cmM : Fin 2 → Memref sig .tc .hbm S2x8x1024x512 .bf16
  | 0 => Memref.whole main_v1_1
  | 1 => Memref.whole main_v1_2
theorem cmM_whole : (r : Fin 2) → (cmM r).IsWhole
  | 0 => Memref.isWhole_whole _
  | 1 => Memref.isWhole_whole _
/-- The send cells and receive cells of ring `r`, its credit semaphore. -/
def sdA : Fin 2 → DmaSems sig S2x8
  | 0 => cc0_scratch3
  | 1 => cc0_scratch5
def rvA : Fin 2 → DmaSems sig S2x8
  | 0 => cc0_scratch4
  | 1 => cc0_scratch6
def crS : Fin 2 → Sem sig
  | 0 => cc0_scratch8.sem
  | 1 => cc0_scratch9.sem
abbrev lcS : DmaSem sig := cc0_scratch7.sem
abbrev barS : Sem sig := (SemArray.scalar (sig.barrier 0 rfl) : Sems sig S_).sem

/-- Slot `(q, p)` of ring `r`. -/
abbrev slt (r q : Fin 2) (p : Fin 8) : Memref sig .tc .hbm S1024x512 .bf16 := slotV (cmM r) q p

/-- The half of the exchange buffer that stage `t` sends from. -/
def sl (t : ℕ) : Fin 2 := ⟨t % 2, Nat.mod_lt _ (by decide)⟩

abbrev sdC (r q : Fin 2) (p : Fin 8) : DmaSem sig := cellV (sdA r) q p
abbrev rvC (r q : Fin 2) (p : Fin 8) : DmaSem sig := cellV (rvA r) q p

/-- The transfer cells by number. -/
def dsem (b r q : Fin 2) (p : Fin 8) : DmaSem sig :=
  ⟨4 + 32 * r.val + 16 * b.val + 8 * q.val + p.val, by
    have := b.isLt; have := r.isLt; have := q.isLt; have := p.isLt
    show _ < 69; omega⟩
theorem sdC_eq (r q : Fin 2) (p : Fin 8) : sdC r q p = dsem 0 r q p := by revert r q p; decide
theorem rvC_eq (r q : Fin 2) (p : Fin 8) : rvC r q p = dsem 1 r q p := by revert r q p; decide
theorem lcS_eq : lcS = (⟨68, by decide⟩ : DmaSem sig) := by decide

/-- The cells of one device: a transfer cell (send or receive, ring, half, piece), the barrier, the credits. -/
abbrev Ck := (Fin 2 × Fin 2 × Fin 2 × Fin 8) ⊕ Fin 3
def csem : Ck → SemLoc sig
  | .inl (b, r, q, p) => .dma (dsem b r q p)
  | .inr 0 => .reg barS
  | .inr 1 => .reg (crS 0)
  | .inr 2 => .reg (crS 1)
abbrev kcell (x : Dev nD × Ck) : GSem nD τ sig := ((x.1 : Thread nD τ), csem x.2)

abbrev N : ℕ := (slt 0 0 0).view.dmaCredit
theorem N_pos : 0 < N := View.dmaCredit_pos _ (by decide)
theorem N_slt (r q : Fin 2) (p : Fin 8) : (slt r q p).view.dmaCredit = N := by
  match r with
  | 0 => rfl
  | 1 => rfl

/-! ## Contents -/

/-- Device `c`'s operands as staged. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def s1stg (c : Dev nD) : (cc0_stg2_0 : Ref sig .tc).ty.Contents (Elt F) :=
  (win0_2.blk (0 : Fin 1)).view.read (Elt F) (m ((c : Thread nD τ).loc main_arg2))
def s2stg (c : Dev nD) : (cc0_stg3_0 : Ref sig .tc).ty.Contents (Elt F) :=
  (win0_3.blk (0 : Fin 1)).view.read (Elt F) (m ((c : Thread nD τ).loc main_arg3))

/-- The rows of stage `t` and the columns of piece `p`, as loaded. -/
def xb (r : Fin 2) (t : ℕ) (c : Dev nD) : Vec F S1024x1024 .i8 :=
  xM.view.readAt (Elt F) (Rect.unit (s := S4096x1024) (xo r t c) S1024x1024.size (xo_inb r t c)).toLoadRect (xstg m c)
def wb (r : Fin 2) (c : Dev nD) (p : Fin 8) : Vec F S1024x512 .i8 :=
  wM.view.readAt (Elt F) (Rect.unit (s := S1024x8192) ![0, col r p] S1024x512.size (inb_col r p)).toLoadRect (wstg m c)

/-- What device `c` sends on ring `r` at stage `t` for piece `p`. -/
def acc (r : Fin 2) : ℕ → Dev nD → Fin 8 → FVec F S1024x512 .bf16
  | 0, c, p => pay0 (xb m r 0 c) (wb m r c p)
  | t + 1, c, p => pay1 (xb m r (t + 1) c) (wb m r c p) (acc r t (upD r c) p)

/-- The product of the two scales, as loaded. -/
def scl (c : Dev nD) : F .f32 :=
  Scalar.mulf
    (((Memref.whole cc0_stg2_0 : Memref sig .tc .smem S1 .f32).access (Rect.unit (s := S1) ![0] S1.size inb_S1_S1_0)).read (Elt F) (s1stg m c) (Shape.Idx.first (numel1_S1.symm ▸ Nat.one_pos)))
    (((Memref.whole cc0_stg3_0 : Memref sig .tc .smem S1 .f32).access (Rect.unit (s := S1) ![0] S1.size inb_S1_S1_0)).read (Elt F) (s2stg m c) (Shape.Idx.first (numel1_S1.symm ▸ Nat.one_pos)))

/-- What device `c` leaves in piece `p` of ring `r` of the result. -/
def outP (r : Fin 2) (c : Dev nD) (p : Fin 8) : FVec F S1024x512 .f32 :=
  pay2 (scl m c) (xb m r 3 c) (wb m r c p) (acc m r 2 (upD r c) p)

/-! ## The schedule -/

/-- Slot `(q, p)` of ring `r` on device `c`, whole, holding `X`. -/
def own (c : Dev nD) (r q : Fin 2) (p : Fin 8) (X : FVec F S1024x512 .bf16) : sProp 𝕄 :=
  owns (c : Thread nD τ) (slt r q p) fullShare X
/-- The same at any contents. -/
def anySlot (k : Key) : sProp 𝕄 :=
  Release.slot ((slt k.2.1 k.2.2.1 k.2.2.2).view.loc (k.1 : Thread nD τ)) (slt k.2.1 k.2.2.1 k.2.2.2).view.set

/-- What a credit for `(s, p)` on ring `r` says of the device `e` that gives it: the slot of half `s` has been
    released, and the receive cell of half 1 has left its first round. -/
def fact (r : Fin 2) (e : Dev nD) (x : Fin 2 × Fin 8) : sProp 𝕄 :=
  iprop(Release.released ES (e, r, x.1, x.2) 1 ∗ reached ER ((e : Thread nD τ), .dma (dsem 1 r 1 x.2)) 1)
/-- Those facts for the first `n` credits. -/
def facts (r : Fin 2) (e : Dev nD) (n : ℕ) : sProp 𝕄 :=
  bigSep (Finset.univ.filter fun x : Fin 2 × Fin 8 => 8 * x.1.val + x.2.val < n) (fact (F := F) r e)

instance fact_persistent (r : Fin 2) (e : Dev nD) (x : Fin 2 × Fin 8) : BI.Persistent (fact (F := F) r e x) := by
  unfold fact; infer_instance
instance facts_persistent (r : Fin 2) (e : Dev nD) (n : ℕ) : BI.Persistent (facts (F := F) r e n) := by
  unfold facts; infer_instance

/-- The barrier hands over the first receive slots of the device that signals. -/
def barPay (r : Fin 2) (e : Dev nD) : sProp 𝕄 :=
  bigSep Finset.univ fun p : Fin 8 => anySlot (F := F) (e, r, 1, p)

/-- The ring, kind, half and piece of a transfer cell, and the stage of its round `n`. -/
def dRing (s : DmaSem sig) : Fin 2 := ⟨(s.val - 4) / 32 % 2, Nat.mod_lt _ (by decide)⟩
def dKind (s : DmaSem sig) : Fin 2 := ⟨(s.val - 4) / 16 % 2, Nat.mod_lt _ (by decide)⟩
def dHalf (s : DmaSem sig) : Fin 2 := ⟨(s.val - 4) / 8 % 2, Nat.mod_lt _ (by decide)⟩
def dPiece (s : DmaSem sig) : Fin 8 := ⟨(s.val - 4) % 8, Nat.mod_lt _ (by decide)⟩

theorem d_of (b r q : Fin 2) (p : Fin 8) :
    dRing (dsem b r q p) = r ∧ dKind (dsem b r q p) = b ∧ dHalf (dsem b r q p) = q ∧ dPiece (dsem b r q p) = p := by
  revert b r q p; decide

/-- How many rounds a transfer cell runs. -/
def nrd (s : DmaSem sig) : ℕ := if dKind s = dHalf s then 2 else 1

def xferPay (c : Dev nD) (s : DmaSem sig) (n : ℕ) : sProp 𝕄 :=
  if dKind s = 1 then own c (dRing s) (dHalf s) (dPiece s)
    (acc m (dRing s) (2 * n + (1 - (dHalf s).val)) (upD (dRing s) c) (dPiece s))
  else own c (dRing s) (dHalf s) (dPiece s) (acc m (dRing s) (2 * n + (dHalf s).val) c (dPiece s))

def Rd : Rounds.Schedule (GSem nD τ sig) ℕ 𝕄 where
  duties g n := match g.2 with
    | .reg s => if n = 0 then (if s = barS then {0, 1} else Finset.range 16) else ∅
    | .dma s => if n < nrd s then {0} else ∅
  unitless _ := False
  amount g _ _ := match g.2 with
    | .reg _ => 1
    | .dma _ => N
  payload g n d := match g.2 with
    | .reg s =>
      if s = barS then barPay (if d = 0 then 0 else 1) (dnD (if d = 0 then 0 else 1) g.1.1)
      else facts (if s = crS 0 then 0 else 1) (dnD (if s = crS 0 then 0 else 1) g.1.1) (d + 1)
    | .dma s => xferPay m g.1.1 s n
  amount_pos g _ _ _ := by
    rcases g with ⟨_, s | s⟩
    · exact Nat.one_pos
    · exact N_pos

end Cert.KernelIdeal.Own
-- ==== Proof.Tables.lean ====
/- The schedule's tables read off, the promises a device makes in the order it keeps them, the order of the
   waits, and the facts every device knows throughout. -/
module

public import proofs.«01_k».proof.Proof.Protocol

@[expose] public section

set_option maxRecDepth 10000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig ℕ (Elt F) ℕ UU ℕ
variable (m : (ℓ : Loc nD τ sig) → Buf (Elt F) ℓ)

instance own_storable (c : Dev nD) (r q : Fin 2) (p : Fin 8) (X) :
    BI.Storable (upEmb : UEmb _ 𝕄) (own (F := F) c r q p X) := by unfold own owns; infer_instance
instance anySlot_storable (k : Key) : BI.Storable (upEmb : UEmb _ 𝕄) (anySlot (F := F) k) := by
  unfold anySlot; infer_instance
instance facts_storable (r : Fin 2) (e : Dev nD) (n : ℕ) : BI.Storable (upEmb : UEmb _ 𝕄) (facts (F := F) r e n) := by
  unfold facts fact; infer_instance
instance xferPay_storable (c : Dev nD) (s : DmaSem sig) (n : ℕ) :
    BI.Storable (upEmb : UEmb _ 𝕄) (xferPay (F := F) m c s n) := by
  unfold xferPay; split <;> infer_instance
instance barPay_storable (r : Fin 2) (e : Dev nD) : BI.Storable (upEmb : UEmb _ 𝕄) (barPay (F := F) r e) := by
  unfold barPay; infer_instance

instance payload_storable (g : GSem nD τ sig) (n d : ℕ) :
    BI.Storable (upEmb : UEmb _ 𝕄) ((Rd (F := F) m).payload g n d) := by
  rcases g with ⟨t, s | s⟩
  · show BI.Storable upEmb (if s = barS then barPay (if d = 0 then 0 else 1) (dnD (if d = 0 then 0 else 1) t.1)
      else facts (if s = crS 0 then 0 else 1) (dnD (if s = crS 0 then 0 else 1) t.1) (d + 1))
    split <;> infer_instance
  · show BI.Storable upEmb (xferPay m t.1 s n); infer_instance

/-! ## Tables -/

abbrev barC (c : Dev nD) : GSem nD τ sig := ((c : Thread nD τ), .reg barS)
abbrev crC (r : Fin 2) (c : Dev nD) : GSem nD τ sig := ((c : Thread nD τ), .reg (crS r))
abbrev sdG (r q : Fin 2) (p : Fin 8) (c : Dev nD) : GSem nD τ sig := ((c : Thread nD τ), .dma (dsem 0 r q p))
abbrev rvG (r q : Fin 2) (p : Fin 8) (c : Dev nD) : GSem nD τ sig := ((c : Thread nD τ), .dma (dsem 1 r q p))

theorem crS_ne (r : Fin 2) : crS r ≠ barS := by revert r; decide
theorem crS_ring (r : Fin 2) : (if crS r = crS 0 then (0 : Fin 2) else 1) = r := by revert r; decide

theorem duties_bar (c : Dev nD) : (Rd (F := F) m).duties (barC c) 0 = {0, 1} := by
  dsimp only [Rd, barC]; rw [if_pos rfl, if_pos rfl]
theorem duties_cr (r : Fin 2) (c : Dev nD) : (Rd (F := F) m).duties (crC r c) 0 = Finset.range 16 := by
  dsimp only [Rd, crC]; rw [if_pos rfl, if_neg (crS_ne r)]
theorem duties_reg (c : Thread nD τ) (s : Sem sig) (n : ℕ) (hn : 1 ≤ n) : (Rd (F := F) m).duties (c, .reg s) n = ∅ := by
  dsimp only [Rd]; rw [if_neg (by omega)]

theorem nrd_of (b r q : Fin 2) (p : Fin 8) : nrd (dsem b r q p) = if b = q then 2 else 1 := by
  obtain ⟨-, hb, hq, -⟩ := d_of b r q p; unfold nrd; rw [hb, hq]
theorem duties_dma (b r q : Fin 2) (p : Fin 8) (c : Dev nD) (n : ℕ) (hn : n < if b = q then 2 else 1) :
    (Rd (F := F) m).duties ((c : Thread nD τ), .dma (dsem b r q p)) n = {0} := by
  dsimp only [Rd]; rw [nrd_of, if_pos hn]
theorem duties_dma_later (b r q : Fin 2) (p : Fin 8) (c : Dev nD) (n : ℕ) (hn : (if b = q then 2 else 1) ≤ n) :
    (Rd (F := F) m).duties ((c : Thread nD τ), .dma (dsem b r q p)) n = ∅ := by
  dsimp only [Rd]; rw [nrd_of, if_neg (by omega)]

/-- The halves and rounds of stage `t`'s send: it leaves half `sl t`, lands in half `sl (t + 1)`, round `t / 2`. -/
theorem sl_send (t : ℕ) (ht : t < 3) : t / 2 < if (0 : Fin 2) = sl t then 2 else 1 := by
  have : t = 0 ∨ t = 1 ∨ t = 2 := by omega
  rcases this with rfl | rfl | rfl <;> decide
theorem sl_recv (t : ℕ) (ht : t < 3) : t / 2 < if (1 : Fin 2) = sl (t + 1) then 2 else 1 := by
  have : t = 0 ∨ t = 1 ∨ t = 2 := by omega
  rcases this with rfl | rfl | rfl <;> decide

theorem duties_sd (t : ℕ) (ht : t < 3) (r : Fin 2) (p : Fin 8) (c : Dev nD) :
    (Rd (F := F) m).duties (sdG r (sl t) p c) (t / 2) = {0} := duties_dma m 0 r (sl t) p c _ (sl_send t ht)
theorem duties_rv (t : ℕ) (ht : t < 3) (r : Fin 2) (p : Fin 8) (c : Dev nD) :
    (Rd (F := F) m).duties (rvG r (sl (t + 1)) p c) (t / 2) = {0} := duties_dma m 1 r (sl (t + 1)) p c _ (sl_recv t ht)

theorem expect_bar (c : Dev nD) : (Rd (F := F) m).expect (barC c) 0 = 2 := by
  unfold Schedule.expect Schedule.amountOf; rw [duties_bar]; rfl
theorem expect_cr (r : Fin 2) (c : Dev nD) : (Rd (F := F) m).expect (crC r c) 0 = 16 := by
  unfold Schedule.expect Schedule.amountOf; rw [duties_cr]; rfl
theorem expect_sd (t : ℕ) (ht : t < 3) (r : Fin 2) (p : Fin 8) (c : Dev nD) :
    (Rd (F := F) m).expect (sdG r (sl t) p c) (t / 2) = N := by
  unfold Schedule.expect Schedule.amountOf; rw [duties_sd m t ht]; exact Finset.sum_singleton _ _
theorem expect_rv (t : ℕ) (ht : t < 3) (r : Fin 2) (p : Fin 8) (c : Dev nD) :
    (Rd (F := F) m).expect (rvG r (sl (t + 1)) p c) (t / 2) = N := by
  unfold Schedule.expect Schedule.amountOf; rw [duties_rv m t ht]; exact Finset.sum_singleton _ _

theorem payload_bar (r : Fin 2) (c : Dev nD) :
    (Rd (F := F) m).payload (barC c) 0 r.val = barPay (F := F) r (dnD r c) := by
  match r with
  | 0 => rfl
  | 1 => rfl
theorem payload_cr (r : Fin 2) (c : Dev nD) (d : ℕ) :
    (Rd (F := F) m).payload (crC r c) 0 d = facts (F := F) r (dnD r c) (d + 1) := by
  dsimp only [Rd, crC]; rw [if_neg (crS_ne r), crS_ring]
theorem payload_sd (t : ℕ) (r : Fin 2) (p : Fin 8) (c : Dev nD) :
    (Rd (F := F) m).payload (sdG r (sl t) p c) (t / 2) 0 = own c r (sl t) p (acc m r t c p) := by
  show xferPay m c (dsem 0 r (sl t) p) (t / 2) = _
  obtain ⟨h1, h2, h3, h4⟩ := d_of 0 r (sl t) p
  have ht : 2 * (t / 2) + (sl t).val = t := by unfold sl; exact Nat.div_add_mod t 2
  unfold xferPay; rw [h1, h2, h3, h4, if_neg (by decide), ht]
theorem payload_rv (t : ℕ) (r : Fin 2) (p : Fin 8) (c : Dev nD) :
    (Rd (F := F) m).payload (rvG r (sl (t + 1)) p c) (t / 2) 0 = own c r (sl (t + 1)) p (acc m r t (upD r c) p) := by
  show xferPay m c (dsem 1 r (sl (t + 1)) p) (t / 2) = _
  obtain ⟨h1, h2, h3, h4⟩ := d_of 1 r (sl (t + 1)) p
  have ht : 2 * (t / 2) + (1 - (sl (t + 1)).val) = t := by unfold sl; dsimp only; omega
  unfold xferPay; rw [h1, h2, h3, h4, if_pos rfl, ht]

/-! ## Promises -/

/-- What a device does towards another one: its barrier signals, its sends by stage, its credits by step. -/
inductive Ev
  | bar (r : Fin 2)
  | snd (t : ℕ) (r : Fin 2) (p : Fin 8)
  | crd (s : ℕ) (r : Fin 2) (p : Fin 8)
deriving DecidableEq

def ecell : Ev → Dev nD → GSem nD τ sig
  | .bar r, d => barC (upD r d)
  | .snd t r p, d => rvG r (sl (t + 1)) p (dnD r d)
  | .crd _ r _, d => crC r (upD r d)
def elv : Ev → ℕ
  | .bar _ => 1
  | .snd t _ _ => 100 * t + 10
  | .crd s r p => 100 * s + 20 + 2 * p.val + r.val
def eamt : Ev → ℕ
  | .bar _ => 1
  | .snd _ _ _ => N
  | .crd _ _ _ => 1

/-- What a device still owes, the events in `es` ahead of it. -/
def owe : List Ev → Dev nD → CellTallies nD τ sig ℕ
  | [], _ => 0
  | e :: es, d => owe es d + tallyAt (ecell e d) (elv e) (eamt e)

def evI : List Ev := ps8.flatMap fun p => [.snd 0 0 p, .snd 0 1 p]
def evS (s : ℕ) : List Ev := ps8.flatMap fun p => [.crd s 0 p, .snd (s + 1) 0 p, .crd s 1 p, .snd (s + 1) 1 p]
/-- All of them, in program order. -/
def evAll : List Ev := [.bar 0, .bar 1] ++ evI ++ evS 0 ++ evS 1
/-- Those from the `n`-th on. -/
def rem (n : ℕ) : List Ev := evAll.drop n

theorem rem_bar0 : rem 0 = .bar 0 :: rem 1 := by decide
theorem rem_bar1 : rem 1 = .bar 1 :: rem 2 := by decide
theorem rem_snd0 (r : Fin 2) (p : Fin 8) : rem (2 + (2 * p.val + r.val)) = .snd 0 r p :: rem (2 + (2 * p.val + r.val + 1)) := by
  revert r p; decide
theorem rem_step (s r : Fin 2) (p : Fin 8) :
    rem (18 + 32 * s.val + 2 * (2 * p.val + r.val))
      = .crd s.val r p :: rem (18 + 32 * s.val + 2 * (2 * p.val + r.val) + 1) := by
  revert s r p; decide
theorem rem_step' (s r : Fin 2) (p : Fin 8) :
    rem (18 + 32 * s.val + 2 * (2 * p.val + r.val) + 1)
      = .snd (s.val + 1) r p :: rem (18 + 32 * s.val + 2 * (2 * p.val + r.val + 1)) := by
  revert s r p; decide
theorem rem_end : rem 82 = [] := by decide

/-- Every promise from `n` on is above `lo`. -/
def above (n lo : ℕ) : Prop := ∀ e ∈ rem n, lo < elv e ∧ elv e < 1000
instance (n lo : ℕ) : Decidable (above n lo) := by unfold above; infer_instance

theorem above_all : above 0 0 := by decide
theorem above_mono {n n' lo lo' : ℕ} (h : above n lo) (hn : n ≤ n') (hl : lo' ≤ lo) : above n' lo' := by
  intro e he
  have := h e ((List.drop_sublist_drop_left evAll hn).subset he)
  exact ⟨by omega, this.2⟩
theorem above_bar : above 2 1 := by decide
theorem above_recv (s r : Fin 2) (p : Fin 8) : above (18 + 32 * s.val + 2 * (2 * p.val + r.val)) (100 * s.val + 10) := by
  revert s r p; decide
theorem above_crd (s r : Fin 2) (p : Fin 8) :
    above (18 + 32 * s.val + 2 * (2 * p.val + r.val) + 1) (elv (.crd s.val r p)) := by
  revert s r p; decide
theorem above_end (lo : ℕ) : above 82 lo := by intro e he; rw [rem_end] at he; cases he

theorem owe_pos {es : List Ev} {d : Dev nD} {g : GSem nD τ sig} {u : ℕ} (h : 0 < owe es d g u) :
    ∃ e ∈ es, g = ecell e d ∧ u = elv e := by
  induction es with
  | nil => exact absurd h (by show ¬ 0 < 0; exact Nat.lt_irrefl 0)
  | cons e es ih =>
    rw [owe, Pi.add_apply, Finsupp.add_apply] at h
    by_cases h0 : 0 < owe es d g u
    · obtain ⟨e', he', h'⟩ := ih h0; exact ⟨e', List.mem_cons_of_mem _ he', h'⟩
    · have h1 : 0 < tallyAt (ecell e d) (elv e) (eamt e) g u := by omega
      by_cases hg : g = ecell e d ∧ u = elv e
      · exact ⟨e, List.mem_cons_self .., hg⟩
      · exfalso
        unfold tallyAt tallyOn at h1
        by_cases hgg : g = ecell e d
        · subst hgg; rw [Pi.single_eq_same] at h1
          exact hg ⟨rfl, by by_contra hu; rw [Finsupp.single_eq_of_ne hu] at h1; exact Nat.lt_irrefl 0 h1⟩
        · rw [Pi.single_eq_of_ne hgg] at h1; exact Nat.lt_irrefl 0 h1

/-! ## The order of the waits -/

def L (g : GSem nD τ sig) : Finset ℕ := if g.1.2 = .tc then Finset.range 1000 else ∅
def lv (_ : GSem nD τ sig) (i : ℕ) : ℕ := i

theorem mem_L (c : Dev nD) (s : SemLoc sig) {i : ℕ} (h : i < 1000) : i ∈ L ((c : Thread nD τ), s) := by
  unfold L; rw [if_pos rfl]; exact Finset.mem_range.mpr h

theorem ecell_tc (e : Ev) (d : Dev nD) : (ecell e d).1.2 = .tc := by cases e <;> rfl

theorem may_wait (c : Dev nD) (s : SemLoc sig) {n lo : ℕ} (hlo : lo < 1000) (h : above n lo) :
    (levAts L lv : sProp 𝕄) ⊢ MayWait (c : Thread nD τ) s lo (owe (rem n) c) :=
  Pipeline.mayWait_of_levAts (mem_L c s hlo) fun g i hg => by
    obtain ⟨e, he, rfl, rfl⟩ := owe_pos hg
    exact ⟨by unfold L; rw [if_pos (ecell_tc e c)]; exact Finset.mem_range.mpr (h e he).2, (h e he).1⟩

/-- A device's ledger with the events from the `n`-th on ahead of it. -/
def owesN (c : Dev nD) (n : ℕ) : sProp 𝕄 := iprop(∃ W, owes (c : Thread nD τ) (owe (rem n) c) W)

/-! ## What every device knows -/

/-- The cells' invariants, their first rounds, the slots' invariants and the order of the waits. -/
def recs (κ : Dev nD × Ck → ℕ) (σ : Key → ℕ) : sProp 𝕄 :=
  iprop(bigSep Finset.univ (fun x : Dev nD × Ck => cellInv ER (Rd m) (κ x) (kcell x))
    ∗ bigSep Finset.univ (fun x : Dev nD × Ck => reached ER (kcell x) 0)
    ∗ bigSep Finset.univ (fun k : Key => Release.slotInv ES (σ k) k (anySlot (F := F) k))
    ∗ levAts L lv)

instance recs_persistent (κ : Dev nD × Ck → ℕ) (σ : Key → ℕ) : BI.Persistent (recs (F := F) m κ σ) := by
  unfold recs; infer_instance

variable (κ : Dev nD × Ck → ℕ) (σ : Key → ℕ)

theorem recs_inv (x : Dev nD × Ck) : recs (F := F) m κ σ ⊢ cellInv ER (Rd m) (κ x) (kcell x) := by
  unfold recs; iintro ⟨H, _, _, _⟩
  iapply (show bigSep Finset.univ (fun x : Dev nD × Ck => cellInv ER (Rd (F := F) m) (κ x) (kcell x))
    ⊢ cellInv ER (Rd m) (κ x) (kcell x) from bigSep_elim (Finset.mem_univ x)) $$ H
theorem recs_reached (x : Dev nD × Ck) : recs (F := F) m κ σ ⊢ reached ER (kcell x) 0 := by
  unfold recs; iintro ⟨_, H, _, _⟩
  iapply (show bigSep Finset.univ (fun x : Dev nD × Ck => (reached ER (kcell x) 0 : sProp 𝕄))
    ⊢ reached ER (kcell x) 0 from bigSep_elim (Finset.mem_univ x)) $$ H
theorem recs_slot (k : Key) : recs (F := F) m κ σ ⊢ Release.slotInv ES (σ k) k (anySlot (F := F) k) := by
  unfold recs; iintro ⟨_, _, H, _⟩
  iapply (show bigSep Finset.univ (fun k : Key => Release.slotInv ES (σ k) k (anySlot (F := F) k))
    ⊢ Release.slotInv ES (σ k) k (anySlot (F := F) k) from bigSep_elim (Finset.mem_univ k)) $$ H
theorem recs_lev : recs (F := F) m κ σ ⊢ (levAts L lv : sProp 𝕄) := by
  unfold recs; iintro ⟨_, _, _, H⟩; iexact H

theorem facts_elim (r : Fin 2) (e : Dev nD) {n : ℕ} (q : Fin 2) (p : Fin 8) (h : 8 * q.val + p.val < n) :
    facts (F := F) r e n ⊢ fact (F := F) r e (q, p) :=
  bigSep_elim (Φ := fact (F := F) r e) (i := (q, p)) (Finset.mem_filter.mpr ⟨Finset.mem_univ _, h⟩)
theorem facts_zero (r : Fin 2) (e : Dev nD) : (emp : sProp 𝕄) ⊢ facts (F := F) r e 0 := by
  unfold facts
  rw [show (Finset.univ.filter fun x : Fin 2 × Fin 8 => 8 * x.1.val + x.2.val < 0) = ∅ from
    Finset.filter_eq_empty_iff.mpr fun _ _ h => by omega]
  exact Entails.of_eq BI.bigSep_empty.symm
theorem facts_succ (r : Fin 2) (e : Dev nD) (q : Fin 2) (p : Fin 8) :
    iprop(facts (F := F) r e (8 * q.val + p.val) ∗ fact (F := F) r e (q, p)) ⊢ facts (F := F) r e (8 * q.val + p.val + 1) := by
  unfold facts
  rw [show (Finset.univ.filter fun x : Fin 2 × Fin 8 => 8 * x.1.val + x.2.val < 8 * q.val + p.val + 1)
      = insert (q, p) (Finset.univ.filter fun x : Fin 2 × Fin 8 => 8 * x.1.val + x.2.val < 8 * q.val + p.val) from by
    revert q p; decide]
  rw [BI.bigSep_insert (fun h => by have := (Finset.mem_filter.mp h).2; exact Nat.lt_irrefl _ this)]
  show iprop(_ ∗ _) ⊢ iprop(_ ∗ _)
  iintro ⟨H1, H2⟩; isplitl [H2]; · iexact H2
  iexact H1

end Cert.KernelIdeal.Own
-- ==== Proof.Ops.lean ====
/- The kernel's operations under the protocol: local copies, a send, the two waits of a step, giving a credit
   and waiting for one. -/
module

public import proofs.«01_k».proof.Proof.Tables

@[expose] public section

set_option maxRecDepth 10000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig ℕ (Elt F) ℕ UU ℕ
variable (m : (ℓ : Loc nD τ sig) → Buf (Elt F) ℓ)
variable (κ : Dev nD × Ck → ℕ) (σ : Key → ℕ)

abbrev 𝒱₀ : Variants := Variants.none

/-- The program `P` on device `c` ends in `Q`. -/
abbrev WP (c : Dev nD) (P : BProg F PUnit) (Q : PUnit.{1} → sProp 𝕄) : sProp 𝕄 :=
  wp frame (wpE (defs₀ (F := F)) 𝒱₀ (c : Thread nD τ) none) Set.univ P Q

/-! ## What a device holds of its own buffers -/

/-- The block buffers, at any contents; the local copies' semaphore at rest. -/
def stAny (c : Dev nD) : sProp 𝕄 := iprop(∃ f, stM.view.loc (c : Thread nD τ) ↦[stM.view.set]{fullShare} f)
def acAny (c : Dev nD) : sProp 𝕄 := iprop(∃ f, acM.view.loc (c : Thread nD τ) ↦[acM.view.set]{fullShare} f)
def obAny (c : Dev nD) : sProp 𝕄 := iprop(∃ f, obM.view.loc (c : Thread nD τ) ↦[obM.view.set]{fullShare} f)
def lcZ (c : Dev nD) : sProp 𝕄 := semVal ((c : Thread nD τ), .dma lcS) 0
/-- The staged operands. -/
def xPts (c : Dev nD) : sProp 𝕄 := iprop(xM.view.loc (c : Thread nD τ) ↦[Finset.univ]{fullShare} xstg m c)
def wPts (c : Dev nD) : sProp 𝕄 := iprop(wM.view.loc (c : Thread nD τ) ↦[Finset.univ]{fullShare} wstg m c)

/-- A piece of the result, at any contents, and holding `X`. -/
def outAny (c : Dev nD) (r : Fin 2) (p : Fin 8) : sProp 𝕄 :=
  iprop(∃ f, (outV oM r p).view.loc (c : Thread nD τ) ↦[(outV oM r p).view.set]{fullShare} f)
def outIs (c : Dev nD) (r : Fin 2) (p : Fin 8) (X : FVec F S1024x512 .f32) : sProp 𝕄 :=
  owns (c : Thread nD τ) (outV oM r p) fullShare X

theorem acM_whole : acM.IsWhole := Memref.isWhole_whole _
theorem stM_whole : stM.IsWhole := Memref.isWhole_whole _
theorem obM_whole : obM.IsWhole := Memref.isWhole_whole _

abbrev No : ℕ := (outV oM 0 0).view.dmaCredit
theorem No_pos : 0 < No := View.dmaCredit_pos _ (by decide)

theorem zero2 : (![0, 0] : Fin 2 → ℕ) = fun _ => 0 := by decide

theorem own_any (c : Dev nD) (r q : Fin 2) (p : Fin 8) (X : FVec F S1024x512 .bf16) :
    own c r q p X ⊢ anySlot (F := F) (c, r, q, p) := by
  unfold own owns anySlot Release.slot
  iintro ⟨%f, -, H⟩; iexists f; iexact H

/-! ## Loads and local copies -/

variable (c : Dev nD) (r q q' : Fin 2) (p : Fin 8) (n : ℕ)

theorem wp_loadX (t : ℕ) (k : Vec F S1024x1024 .i8 → BProg F PUnit) (Q : PUnit → sProp 𝕄) :
    xPts m c ⊢ iprop((xPts m c -∗ WP c (k (xb m r t c)) Q)
      -∗ WP c (loadX xM (xo r t c) (xo_inb r t c) >>= k) Q) := by
  unfold xPts loadX
  simp only [Prog.lift, Prog.bind_op, Prog.bind_ret]
  exact wp_load 𝒱₀ (c : Thread nD τ) none Set.univ (m := xM) (Finset.subset_univ _)

theorem wp_loadW (k : Vec F S1024x512 .i8 → BProg F PUnit) (Q : PUnit → sProp 𝕄) :
    wPts m c ⊢ iprop((wPts m c -∗ WP c (k (wb m r c p)) Q)
      -∗ WP c (loadW wM r p >>= k) Q) := by
  unfold wPts loadW
  simp only [Prog.lift, Prog.bind_op, Prog.bind_ret]
  exact wp_load 𝒱₀ (c : Thread nD τ) none Set.univ (m := wM) (Finset.subset_univ _)

theorem wp_putAcc (v : FVec F S1024x512 .bf16) (hn : above n 0) (k : PUnit → BProg F PUnit) (Q : PUnit → sProp 𝕄) :
    iprop(recs m κ σ ∗ acAny c ∗ anySlot (c, r, q, p) ∗ lcZ c ∗ owesN c n)
      ⊢ iprop(((acAny c ∗ own c r q p v ∗ lcZ c ∗ owesN c n) -∗ WP c (k ⟨⟩) Q)
        -∗ WP c (putAcc (cmM r) (cmM_whole r) acM acM_whole lcS q p v >>= k) Q) := by
  unfold acAny anySlot Release.slot lcZ owesN putAcc loadB
  simp only [Prog.lift, Prog.bind_op, Prog.bind_ret]
  iintro ⟨#Hr, ⟨%fa, Ha⟩, ⟨%fs, Hs⟩, Hl, ⟨%W, HO⟩⟩ Hk
  have hset : acM.view.set = Finset.univ := View.set_whole _
  rw [hset]
  iapply (wp_load 𝒱₀ (c : Thread nD τ) none Set.univ (m := acM) (Finset.subset_univ _)) $$ Ha; iintro Ha
  iapply (wp_store 𝒱₀ (c : Thread nD τ) none Set.univ (m := acM)
    (r := Rect.unit (s := S1024x512) ![0, 0] S1024x512.size inb_S1024x512_S1024x512_0_0) (Mk := Finset.univ) (Finset.subset_univ _)) $$ Ha; iintro Ha
  have hw : ((acM.access (Rect.unit (s := S1024x512) ![0, 0] S1024x512.size inb_S1024x512_S1024x512_0_0)).write (Elt F) fa v Finset.univ) = v :=
    Memref.write_access_unit_zero_univ (Elt F) cc0_scratch1 zero2 _ fa v
  rw [hw]
  iapply (Transfers.wp_dmaLocal EC 𝒱₀ (c : Thread nD τ) none (src := acM) (dst := slt r q p) (sm := .dma lcS) (fs := v) (Sd := (slt r q p).view.set) 0 N (N_slt r q p) N_pos (Finset.Subset.refl _))
    $$ [Ha Hs Hl]
  · isplitl [Ha]
    · rw [hset]; iexact Ha
    isplitl [Hs]; · iexact Hs
    iexact Hl
  iintro Hf
  iapply (Transfers.wp_waitLocalO EC 𝒱₀ (c : Thread nD τ) none (sem := lcS) (dstw := slt r q p) 0 (N_slt r q p)) $$ [Hf HO]
  · isplitl [Hf]; · iexact Hf
    isplitl [HO]; · iexact HO
    iapply (may_wait c (.dma lcS) (by decide) hn)
    iapply (recs_lev m κ σ) $$ Hr
  iintro ⟨⟨Hd, Hs⟩, Hl, HO⟩
  iapply Hk
  rw [hset]
  isplitl [Hs]; · iexists _; iexact Hs
  isplitl [Hd]
  · unfold own owns
    iexists _
    isplitr; rotate_left
    · iexact Hd
    · ipureintro
      rw [View.read_write_univ]
      exact View.read_whole _ _
  isplitl [Hl]; · iexact Hl
  iexists _; iexact HO

/-- Slot `(q, p)`, read into the staging block: what the copy delivers at its wait. -/
def staged (c : Dev nD) (r q : Fin 2) (p : Fin 8) (X : FVec F S1024x512 .bf16) : sProp 𝕄 :=
  iprop((stM.view.loc (c : Thread nD τ) ↦[stM.view.set]{fullShare} X) ∗ own c r q p X)

theorem wp_stageStart (X : FVec F S1024x512 .bf16) (k : PUnit → BProg F PUnit) (Q : PUnit → sProp 𝕄) :
    iprop(stAny c ∗ own c r q p X ∗ lcZ c)
      ⊢ iprop((Transfers.Flight EC (c : Thread nD τ) (.dma lcS) 0 N (staged c r q p X) -∗ WP c (k ⟨⟩) Q)
        -∗ WP c (stageStart (cmM r) (cmM_whole r) stM stM_whole lcS q p >>= k) Q) := by
  unfold stAny own owns lcZ stageStart
  simp only [Prog.lift, Prog.bind_op, Prog.bind_ret]
  iintro ⟨⟨%fa, Ha⟩, ⟨%fs, %hfs, Hs⟩, Hl⟩ Hk
  iapply (Transfers.wp_dmaLocal EC 𝒱₀ (c : Thread nD τ) none (src := slt r q p) (dst := stM) (sm := .dma lcS) (fs := fs)
    (Sd := stM.view.set) 0 N rfl N_pos (Finset.Subset.refl _)) $$ [Ha Hs Hl]
  · isplitl [Hs]; · iexact Hs
    isplitl [Ha]; · iexact Ha
    iexact Hl
  iintro Hf
  iapply Hk
  have hw : stM.view.write (Elt F) fa (ReadAs.apply .same ((slt r q p).view.read (Elt F) fs)) Finset.univ = X := by
    rw [← hfs]; exact View.write_whole_univ _ _ _
  rw [hw]
  iapply (Transfers.Flight_mono EC (c := (c : Thread nD τ)) (D' := staged c r q p X) ?_) $$ Hf
  unfold staged own owns
  iintro ⟨H1, H2⟩
  isplitl [H1]; · iexact H1
  iexists fs; isplitr; · ipureintro; exact hfs
  iexact H2

theorem wp_stageWait (X : FVec F S1024x512 .bf16) (hn : above n 0) (k : PUnit → BProg F PUnit) (Q : PUnit → sProp 𝕄) :
    iprop(recs m κ σ ∗ Transfers.Flight EC (c : Thread nD τ) (.dma lcS) 0 N (staged c r q p X) ∗ owesN c n)
      ⊢ iprop(((staged c r q p X ∗ lcZ c ∗ owesN c n) -∗ WP c (k ⟨⟩) Q)
        -∗ WP c (stageWait (cmM r) (cmM_whole r) stM stM_whole lcS q p >>= k) Q) := by
  unfold lcZ owesN stageWait
  simp only [Prog.lift, Prog.bind_op, Prog.bind_ret]
  iintro ⟨#Hr, Hf, ⟨%W, HO⟩⟩ Hk
  iapply (Transfers.wp_waitLocalO EC 𝒱₀ (c : Thread nD τ) none (sem := lcS) (dstw := stM) 0 rfl) $$ [Hf HO]
  · isplitl [Hf]; · iexact Hf
    isplitl [HO]; · iexact HO
    iapply (may_wait c (.dma lcS) (by decide) hn)
    iapply (recs_lev m κ σ) $$ Hr
  iintro ⟨Hd, Hl, HO⟩
  iapply Hk
  isplitl [Hd]; · iexact Hd
  isplitl [Hl]; · iexact Hl
  iexists _; iexact HO

theorem wp_loadSt (X : FVec F S1024x512 .bf16) (k : Vec F S1024x512 .bf16 → BProg F PUnit) (Q : PUnit → sProp 𝕄) :
    (stM.view.loc (c : Thread nD τ) ↦[stM.view.set]{fullShare} X : sProp 𝕄)
      ⊢ iprop((stAny c -∗ WP c (k X) Q) -∗ WP c (loadB stM >>= k) Q) := by
  unfold stAny loadB
  simp only [Prog.lift, Prog.bind_op, Prog.bind_ret]
  have hset : stM.view.set = Finset.univ := View.set_whole _
  iintro H Hk
  iapply (wp_load 𝒱₀ (c : Thread nD τ) none Set.univ (m := stM) (by rw [hset]; exact Finset.subset_univ _)) $$ H; iintro H
  have hw : stM.view.readAt (Elt F) (Rect.unit (s := S1024x512) ![0, 0] S1024x512.size inb_S1024x512_S1024x512_0_0).toLoadRect X = X :=
    Memref.readAt_unit_zero (Elt F) cc0_scratch0 zero2 _ X
  rw [hw]
  iapply Hk
  iexists X; iexact H

/-- The result block stored and copied out. -/
def putOut (o : Memref sig .tc .hbm S1024x8192 .f32) (ob : Memref sig .tc .vmem S1024x512 .f32) (hob : ob.IsWhole)
    (lc : DmaSem sig) (r : Fin 2) (p : Fin 8) (v : FVec F S1024x512 .f32) : BProg F PUnit := do
  let _ ← loadB (F := F) ob
  Prog.lift (.store ob (Rect.unit (s := S1024x512) ![0, 0] S1024x512.size inb_S1024x512_S1024x512_0_0) v
    Finset.univ (View.stores_vmem_bits_univ h_S1024x512 rfl) (.inl rfl))
  Prog.lift (.enqueueDma ob (.here (outV o r p)) (.dma lc) hob.wordExact (View.wordExact_bits rfl) ⟨Or.inl rfl, trivial⟩)
  Prog.lift (.waitDma2 lc ob (outV o r p) hob.wordExact (View.wordExact_bits rfl))

theorem wp_putOut (v : FVec F S1024x512 .f32) (hn : above n 0) (k : PUnit → BProg F PUnit) (Q : PUnit → sProp 𝕄) :
    iprop(recs m κ σ ∗ obAny c ∗ outAny c r p ∗ lcZ c ∗ owesN c n)
      ⊢ iprop(((obAny c ∗ outIs c r p v ∗ lcZ c ∗ owesN c n) -∗ WP c (k ⟨⟩) Q)
        -∗ WP c (putOut oM obM obM_whole lcS r p v >>= k) Q) := by
  unfold obAny outAny lcZ owesN putOut loadB
  simp only [Prog.lift, Prog.bind_op, Prog.bind_ret]
  iintro ⟨#Hr, ⟨%fa, Ha⟩, ⟨%fs, Hs⟩, Hl, ⟨%W, HO⟩⟩ Hk
  have hset : obM.view.set = Finset.univ := View.set_whole _
  rw [hset]
  iapply (wp_load 𝒱₀ (c : Thread nD τ) none Set.univ (m := obM) (Finset.subset_univ _)) $$ Ha; iintro Ha
  iapply (wp_store 𝒱₀ (c : Thread nD τ) none Set.univ (m := obM)
    (r := Rect.unit (s := S1024x512) ![0, 0] S1024x512.size inb_S1024x512_S1024x512_0_0) (Mk := Finset.univ) (Finset.subset_univ _)) $$ Ha; iintro Ha
  have hw : ((obM.access (Rect.unit (s := S1024x512) ![0, 0] S1024x512.size inb_S1024x512_S1024x512_0_0)).write (Elt F) fa v Finset.univ) = v :=
    Memref.write_access_unit_zero_univ (Elt F) cc0_scratch2 zero2 _ fa v
  rw [hw]
  iapply (Transfers.wp_dmaLocal EC 𝒱₀ (c : Thread nD τ) none (src := obM) (dst := outV oM r p) (sm := .dma lcS) (fs := v) (Sd := (outV oM r p).view.set) 0 No rfl No_pos (Finset.Subset.refl _))
    $$ [Ha Hs Hl]
  · isplitl [Ha]
    · rw [hset]; iexact Ha
    isplitl [Hs]; · iexact Hs
    iexact Hl
  iintro Hf
  iapply (Transfers.wp_waitLocalO EC 𝒱₀ (c : Thread nD τ) none (sem := lcS) (dstw := outV oM r p) (N := No) 0 rfl) $$ [Hf HO]
  · isplitl [Hf]; · iexact Hf
    isplitl [HO]; · iexact HO
    iapply (may_wait c (.dma lcS) (by decide) hn)
    iapply (recs_lev m κ σ) $$ Hr
  iintro ⟨⟨Hd, Hs⟩, Hl, HO⟩
  iapply Hk
  rw [hset]
  isplitl [Hs]; · iexists _; iexact Hs
  isplitl [Hd]
  · unfold outIs owns
    iexists _
    isplitr; rotate_left
    · iexact Hd
    · ipureintro
      rw [View.read_write_univ]
      exact View.read_whole _ _
  isplitl [Hl]; · iexact Hl
  iexists _; iexact HO

/-! ## Sends, waits, credits -/

/-- The duties of stage `t`'s send of piece `p` on ring `r`. -/
def sendG (t : ℕ) (c : Dev nD) (r : Fin 2) (p : Fin 8) : sProp 𝕄 :=
  iprop(dutyTok ER (sdG r (sl t) p c) (t / 2) 0 ∗ dutyTok ER (rvG r (sl (t + 1)) p (dnD r c)) (t / 2) 0)
/-- The credit of that send's source. -/
def sdc (t : ℕ) (c : Dev nD) (r : Fin 2) (p : Fin 8) : sProp 𝕄 := cred (tallyAt (sdG r (sl t) p c) 0 N)

theorem wp_sendSlot (t : ℕ) (ht : t < 3) (hq' : q' = sl (t + 1)) (hq : q = sl t)
    {n n' : ℕ} (hn : rem n = .snd t r p :: rem n') (k : PUnit → BProg F PUnit) (Q : PUnit → sProp 𝕄) :
    iprop(recs m κ σ ∗ own c r q p (acc m r t c p) ∗ anySlot (dnD r c, r, q', p) ∗ owesN c n ∗ sendG t c r p
        ∗ reached ER (sdG r q p c) (t / 2) ∗ reached ER (rvG r q' p (dnD r c)) (t / 2))
      ⊢ iprop(((sdc t c r p ∗ owesN c n') -∗ WP c (k ⟨⟩) Q)
        -∗ WP c (sendSlot (cmM r) (cmM_whole r) (sdA r) (rvA r) (dnD r c) q q' p >>= k) Q) := by
  subst hq hq'
  unfold own owns anySlot Release.slot owesN sendSlot sendG sdc
  have e1 : cellV (sdA r) (sl t) p = dsem 0 r (sl t) p := sdC_eq r (sl t) p
  have e2 : cellV (rvA r) (sl (t + 1)) p = dsem 1 r (sl (t + 1)) p := rvC_eq r (sl (t + 1)) p
  simp only [Prog.lift, Prog.bind_op, Prog.bind_ret, e1, e2]
  iintro ⟨#Hr, ⟨%fs, %hfs, Hs⟩, ⟨%fd, Hd⟩, ⟨%W, HO⟩, ⟨Ht1, Ht2⟩, Hr1, Hr2⟩ Hk
  iapply (Rounds.wp_send_pointsTo 𝒱₀ ER (Rd m) (c : Thread nD τ) none (c' := (dnD r c : Thread nD τ))
    (src := slt r (sl t) p) (dst := slt r (sl (t + 1)) p)
    (κ₁ := κ (c, .inl (0, r, sl t, p))) (κ₂ := κ (dnD r c, .inl (1, r, sl (t + 1), p)))
    (sS := .dma (dsem 0 r (sl t) p)) (sem := .dma (dsem 1 r (sl (t + 1)) p)) (fs := fs) (fd := fd)
    (r₁ := t / 2) (r₂ := t / 2) (d₁ := 0) (d₂ := 0)
    (by rw [duties_sd m t ht]; exact Finset.mem_singleton_self _)
    (by rw [duties_rv m t ht]; exact Finset.mem_singleton_self _)
    (elv (.snd t r p)) 0 N (N_slt r _ p) rfl rfl (O₀ := owe (rem n) c) (owe (rem n') c) (by rw [hn]; rfl) (W := W)
    (by
      rw [payload_sd]; unfold own owns
      iintro H; iexists fs; isplitr; · ipureintro; exact hfs
      iexact H)
    (by
      rw [payload_rv, up_dn]; unfold own owns
      iintro H; iexists _; isplitr; rotate_left
      · iexact H
      · ipureintro; rw [View.read_write_univ]; exact hfs)) $$ [Hs Hd HO Ht1 Ht2 Hr1 Hr2]
  · isplitr; · iapply (recs_inv m κ σ (c, .inl (0, r, sl t, p))) $$ Hr
    isplitr; · iapply (recs_inv m κ σ (dnD r c, .inl (1, r, sl (t + 1), p))) $$ Hr
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The credit of what arrives at stage `t`. -/
def recvG (t : ℕ) (c : Dev nD) (r : Fin 2) (p : Fin 8) : sProp 𝕄 :=
  cred (tallyAt (rvG r (sl (t + 1)) p c) (100 * t + 10) N)

/-- A wait for a whole round of a transfer cell, which hands over its payload. -/
theorem wp_round {sp : Space} {s' : Shape} {e' : EltTy} (src : Memref sig .tc sp s' e') (dst : Memref sig .tc .hbm S1024x512 .bf16) (hsrc hdst)
    (hN : dst.view.dmaCredit = N) (x : Ck) (s : DmaSem sig) (hs : csem x = .dma s) (R : ℕ) (ι : ℕ) (hι : ι < 1000)
    (hd : (Rd m).duties (kcell (c, x)) R = {0}) (hE : (Rd m).expect (kcell (c, x)) R = N)
    (hn : above n ι) (k : PUnit → BProg F PUnit) (Q : PUnit → sProp 𝕄) :
    iprop(recs m κ σ ∗ cred (tallyAt (kcell (c, x)) ι N) ∗ owesN c n ∗ atPos ER (kcell (c, x)) R ∅ 0)
      ⊢ iprop(((owesN c n ∗ atPos ER (kcell (c, x)) (R + 1) ∅ 0 ∗ reached ER (kcell (c, x)) (R + 1)
            ∗ (Rd m).payload (kcell (c, x)) R 0) -∗ WP c (k ⟨⟩) Q)
        -∗ WP c (.op (.waitDma2 s src dst hsrc hdst) k) Q) := by
  unfold owesN
  iintro ⟨#Hr, Hc, ⟨%W, HO⟩, Hat⟩ Hk
  have hg : kcell (c, x) = ((c : Thread nD τ), .dma s) := by unfold kcell; rw [hs]
  ihave #Hi := (recs_inv m κ σ (c, x)) $$ Hr
  rw [hg] at hd hE ⊢
  iapply (Rounds.wp_wait_rest_token 𝒱₀ ER (Rd m) (c : Thread nD τ) none (κ := κ (c, x))
      (wpE_waitDma2_eq 𝒱₀ (c : Thread nD τ) none Set.univ) (Set.mem_univ _) ι (O := owe (rem n) c) (W := W) (R := R) (m := 0) (T := ∅)
      (by rw [Nat.zero_add, hE, hN])) $$ [Hc HO Hat]
  · isplitr; · iexact Hi
    isplitl [Hc]; · rw [hN]; iexact Hc
    isplitl [HO]; · iexact HO
    isplitr
    · iapply (may_wait c (.dma s) hι hn)
      iapply (recs_lev m κ σ) $$ Hr
    iexact Hat
  iintro ⟨HO, Hat, Hre, Hp⟩
  iapply Hk
  isplitl [HO]; · iexists _; iexact HO
  isplitl [Hat]; · iexact Hat
  isplitl [Hre]; · iexact Hre
  rw [hd, show ({0} : Finset ℕ) \ ∅ = {0} from rfl]
  iapply (Entails.of_eq (BI.bigSep_singleton (Φ := fun d => (Rd m).payload ((c : Thread nD τ), .dma s) R d))) $$ Hp

theorem wp_recv (t : ℕ) (ht : t < 3) (hq : q = sl (t + 1)) (hq' : q' = sl t) (hn : above n (100 * t + 10))
    (k : PUnit → BProg F PUnit) (Q : PUnit → sProp 𝕄) :
    iprop(recs m κ σ ∗ recvG t c r p ∗ sdc t c r p ∗ atPos ER (rvG r q p c) (t / 2) ∅ 0
        ∗ atPos ER (sdG r q' p c) (t / 2) ∅ 0 ∗ owesN c n)
      ⊢ iprop(((own c r q p (acc m r t (upD r c) p) ∗ own c r q' p (acc m r t c p)
            ∗ atPos ER (rvG r q p c) (t / 2 + 1) ∅ 0 ∗ reached ER (rvG r q p c) (t / 2 + 1)
            ∗ atPos ER (sdG r q' p c) (t / 2 + 1) ∅ 0 ∗ reached ER (sdG r q' p c) (t / 2 + 1)
            ∗ owesN c n) -∗ WP c (k ⟨⟩) Q)
        -∗ WP c (recv (cmM r) (cmM_whole r) (sdA r) (rvA r) q q' p >>= k) Q) := by
  subst hq hq'
  unfold recv recvG sdc
  simp only [Prog.lift, Prog.bind_op, Prog.bind_ret]
  iintro ⟨#Hr, Hc1, Hc2, Ha1, Ha2, HO⟩ Hk
  iapply (wp_round m κ σ c n _ (slt r (sl (t + 1)) p) _ _ (N_slt r _ p) (.inl (1, r, sl (t + 1), p)) (rvC r (sl (t + 1)) p)
    (congrArg SemLoc.dma (rvC_eq r (sl (t + 1)) p).symm) (t / 2) (100 * t + 10) (by omega) (duties_rv m t ht r p c) (expect_rv m t ht r p c) hn) $$ [Hc1 Ha1 HO]
  · isplitr; · iexact Hr
    isplitl [Hc1]; · iexact Hc1
    isplitl [HO]; · iexact HO
    iexact Ha1
  iintro ⟨HO, Ha1, Hr1, Hp1⟩
  iapply (wp_round m κ σ c n _ (slt r (sl t) p) _ _ (N_slt r _ p) (.inl (0, r, sl t, p)) (sdC r (sl t) p)
    (congrArg SemLoc.dma (sdC_eq r (sl t) p).symm) (t / 2) 0 (by omega) (duties_sd m t ht r p c) (expect_sd m t ht r p c)
    (above_mono hn (Nat.le_refl _) (Nat.zero_le _))) $$ [Hc2 Ha2 HO]
  · isplitr; · iexact Hr
    isplitl [Hc2]; · iexact Hc2
    isplitl [HO]; · iexact HO
    iexact Ha2
  iintro ⟨HO, Ha2, Hr2, Hp2⟩
  iapply Hk
  isplitl [Hp1]; · iapply (Entails.of_eq (show (Rd m).payload (kcell (c, .inl (1, r, sl (t + 1), p))) (t / 2) 0 = _ from payload_rv m t r p c)) $$ Hp1
  isplitl [Hp2]; · iapply (Entails.of_eq (show (Rd m).payload (kcell (c, .inl (0, r, sl t, p))) (t / 2) 0 = _ from payload_sd m t r p c)) $$ Hp2
  isplitl [Ha1]; · iexact Ha1
  isplitl [Hr1]; · iexact Hr1
  isplitl [Ha2]; · iexact Ha2
  isplitl [Hr2]; · iexact Hr2
  iexact HO

theorem slt_nonempty (r q : Fin 2) (p : Fin 8) : (slt r q p).view.set.Nonempty := by
  rw [← Finset.card_pos, View.card_set]; decide

/-- Giving the credit of step `s`: the slot is released, and the credit says so. -/
theorem wp_credit (s : Fin 2) {n n' : ℕ} (hn : rem n = .crd s.val r p :: rem n') (k : PUnit → BProg F PUnit) (Q : PUnit → sProp 𝕄) :
    iprop(recs m κ σ ∗ Release.readerAt ES (c, r, s, p) 0 ∗ anySlot (c, r, s, p) ∗ reached ER (rvG r 1 p c) 1
        ∗ facts r c (8 * s.val + p.val) ∗ dutyTok ER (crC r (upD r c)) 0 (8 * s.val + p.val) ∗ owesN c n)
      ⊢ iprop(((facts r c (8 * s.val + p.val + 1) ∗ owesN c n') -∗ WP c (k ⟨⟩) Q)
        -∗ WP c (semSignalWord (upD r c) (crS r) 1#32 >>= k) Q) := by
  unfold owesN
  simp only [semSignalWord, Prog.lift, Prog.bind_op, Prog.bind_ret]
  iintro ⟨#Hr, Hrd, Hs, #Hre, #Hf, Ht, ⟨%W, HO⟩⟩ Hk
  imod (Release.slot_release ES (k := (c, r, s, p)) (ι := σ (c, r, s, p)) (S := anySlot (F := F) (c, r, s, p)) (Set.mem_univ _)
    (Release.slot_slot_false (slt_nonempty r s p)) 0) $$ [Hrd Hs] with ⟨-, #Hrel⟩
  · isplitr; · iapply (recs_slot m κ σ (c, r, s, p)) $$ Hr
    isplitl [Hrd]; · iexact Hrd
    iexact Hs
  ihave #Hf' := (facts_succ (F := F) r c s p) $$ []
  · isplitr; · iexact Hf
    unfold fact; isplitr; · iexact Hrel
    iexact Hre
  iapply (Rounds.wp_signal 𝒱₀ ER (Rd m) (c : Thread nD τ) none (dst := (upD r c : Thread nD τ)) (sem := crS r)
      (κ := κ (upD r c, if r = 0 then .inr 1 else .inr 2)) (r := 0)
      (d := 8 * s.val + p.val) (by rw [duties_cr]; exact Finset.mem_range.mpr (by have := s.isLt; have := p.isLt; omega))
      (show (1 : ℕ) = _ by decide) (elv (.crd s.val r p)) (O₀ := owe (rem n) c) (owe (rem n') c) (by rw [hn]; rfl)) $$ [HO Ht]
  · isplitr
    · match r with
      | 0 => iapply (recs_inv m κ σ (upD 0 c, .inr 1)) $$ Hr
      | 1 => iapply (recs_inv m κ σ (upD 1 c, .inr 2)) $$ Hr
    isplitl [HO]; · iexact HO
    isplitl [Ht]; · iexact Ht
    isplitr
    · rw [payload_cr, dn_up]; iexact Hf'
    match r with
    | 0 => iapply (recs_reached m κ σ (upD 0 c, .inr 1)) $$ Hr
    | 1 => iapply (recs_reached m κ σ (upD 1 c, .inr 2)) $$ Hr
  iintro HO
  iapply Hk
  isplitr; · iexact Hf'
  iexists W; iexact HO

/-- A device's own credit semaphore after `j` waits: the credits seen so far, and what they said. -/
def crSt (c : Dev nD) (r : Fin 2) (j : ℕ) : sProp 𝕄 :=
  iprop(∃ T : Finset ℕ, ⌜T ⊆ Finset.range 16 ∧ j + (Finset.range 16 \ T).card ≤ 16⌝ ∗ atPos ER (crC r c) 0 T j
    ∗ bigSep T (fun d => facts (F := F) r (dnD r c) (d + 1)))

theorem exists_late {S : Finset ℕ} {j : ℕ} (hS : S ⊆ Finset.range 16) (h : j + 1 + (Finset.range 16 \ S).card ≤ 16) :
    ∃ d ∈ S, j ≤ d := by
  by_contra hn
  have hsub : S ⊆ Finset.range j := fun d hd => Finset.mem_range.mpr (by
    by_contra hj; exact hn ⟨d, hd, by omega⟩)
  have h1 := Finset.card_le_card hsub
  have h2 := Finset.card_sdiff_add_card_eq_card hS
  rw [Finset.card_range] at h1 h2
  omega

/-- Waiting for the credit of step `s`. -/
theorem wp_creditWait (s : Fin 2) (hn : above n (elv (.crd s.val r p))) (k : PUnit → BProg F PUnit) (Q : PUnit → sProp 𝕄) :
    iprop(recs m κ σ ∗ crSt c r (8 * s.val + p.val) ∗ cred (tallyAt (crC r c) (elv (.crd s.val r p)) 1) ∗ owesN c n)
      ⊢ iprop(((crSt c r (8 * s.val + p.val + 1) ∗ fact r (dnD r c) (s, p) ∗ owesN c n) -∗ WP c (k ⟨⟩) Q)
        -∗ WP c (semWaitWord (crS r) 1#32 >>= k) Q) := by
  unfold owesN crSt
  simp only [semWaitWord, Prog.lift, Prog.bind_op, Prog.bind_ret]
  iintro ⟨#Hr, ⟨%T, %hT, Hat, #HT⟩, Hc, ⟨%W, HO⟩⟩ Hk
  have hlv : elv (.crd s.val r p) < 1000 := by
    have := s.isLt; have := r.isLt; have := p.isLt; show 100 * s.val + 20 + 2 * p.val + r.val < 1000; omega
  iapply (Rounds.wp_wait 𝒱₀ ER (Rd m) (c : Thread nD τ) none (sm := .reg (crS r))
      (κ := κ (c, if r = 0 then .inr 1 else .inr 2)) (wpE_semWait_eq 𝒱₀ (c : Thread nD τ) none Set.univ) (Set.mem_univ _)
      (cr := Finsupp.single (elv (.crd s.val r p)) 1) {(.reg (crS r), elv (.crd s.val r p))}
      (by rw [Util.total_single]; decide) (image_single_subset _ _ _) (R := 0) (m := 8 * s.val + p.val) (T := T)) $$ [Hat Hc HO]
  · isplitr
    · match r with
      | 0 => iapply (recs_inv m κ σ (c, .inr 1)) $$ Hr
      | 1 => iapply (recs_inv m κ σ (c, .inr 2)) $$ Hr
    isplitl [Hc]; · iexact Hc
    isplitl [HO]; · iexact HO
    isplitr
    · iapply (may_wait c (.reg (crS r)) hlv hn)
      iapply (recs_lev m κ σ) $$ Hr
    iexact Hat
  iintro %S ⟨%hS, HO, Hat, Hp'⟩
  ihave #Hp := (show bigSep (S \ T) (fun d => (Rd m).payload ((c : Thread nD τ), .reg (crS r)) 0 d)
      ⊢ bigSep (S \ T) (fun d => facts (F := F) r (dnD r c) (d + 1)) from bigSep_mono fun d _ => Entails.of_eq (payload_cr m r c d)) $$ Hp'
  obtain ⟨hTS, hSd, hcard⟩ := hS
  rw [duties_cr] at hSd hcard
  rw [expect_cr] at hcard
  obtain ⟨d, hd, hjd⟩ := exists_late (j := 8 * s.val + p.val) hSd hcard
  ihave #HS := (show iprop(bigSep T (fun d => facts (F := F) r (dnD r c) (d + 1))
      ∗ bigSep (S \ T) (fun d => facts (F := F) r (dnD r c) (d + 1))) ⊢ bigSep S (fun d => facts (F := F) r (dnD r c) (d + 1)) from by
    have h := bigSep_sep_union (Φ := fun d => facts (F := F) r (dnD r c) (d + 1)) T (S \ T)
    rw [Finset.union_sdiff_of_subset hTS] at h
    exact h) $$ []
  · isplitr; · iexact HT
    iexact Hp
  iapply Hk
  isplitl [Hat]
  · iexists S
    isplitr; · ipureintro; exact ⟨hSd, hcard⟩
    isplitl [Hat]; · iexact Hat
    iexact HS
  isplitr
  · iapply (facts_elim (F := F) r (dnD r c) s p (n := d + 1) (by omega))
    iapply (show bigSep S (fun d => facts (F := F) r (dnD r c) (d + 1)) ⊢ facts (F := F) r (dnD r c) (d + 1) from
      bigSep_elim (Φ := fun d => facts (F := F) r (dnD r c) (d + 1)) hd) $$ HS
  iexists _; iexact HO

end Cert.KernelIdeal.Own
-- ==== Proof.Steps.lean ====
/- The three blocks of the kernel under the protocol: the first partial product of a piece, a ring step on it,
   and its last step. -/
module

public import proofs.«01_k».proof.Proof.Ops

@[expose] public section

set_option maxRecDepth 10000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig ℕ (Elt F) ℕ UU ℕ
variable (m : (ℓ : Loc nD τ sig) → Buf (Elt F) ℓ)
variable (κ : Dev nD × Ck → ℕ) (σ : Key → ℕ)
variable (c : Dev nD) (r : Fin 2) (p : Fin 8)

/-- The buffers every block uses. -/
def bufs (c : Dev nD) : sProp 𝕄 :=
  iprop(xPts m c ∗ wPts m c ∗ stAny c ∗ acAny c ∗ obAny c ∗ lcZ c)

/-! ## The first block -/

def initPre (c : Dev nD) (r : Fin 2) (p : Fin 8) : sProp 𝕄 :=
  iprop(anySlot (c, r, 0, p) ∗ anySlot (dnD r c, r, 1, p) ∗ sendG 0 c r p)

theorem wp_init (k : PUnit → BProg F PUnit) (Q : PUnit → sProp 𝕄) :
    iprop(recs m κ σ ∗ bufs m c ∗ owesN c (2 + (2 * p.val + r.val)) ∗ initPre c r p)
      ⊢ iprop(((bufs m c ∗ owesN c (2 + (2 * p.val + r.val + 1)) ∗ sdc 0 c r p) -∗ WP c (k ⟨⟩) Q)
        -∗ WP c (init xM wM (cmM r) (cmM_whole r) acM acM_whole (sdA r) (rvA r) lcS (xo r 0 c) (xo_inb r 0 c) (dnD r c) r p >>= k) Q) := by
  unfold bufs initPre init
  simp only [Prog.bind_assoc]
  iintro ⟨#Hr, ⟨Hx, Hw, Hst, Hac, Hob, Hl⟩, HO, Hs0, Hs1, Hg⟩ Hk
  iapply (wp_loadX m c r 0) $$ Hx; iintro Hx
  iapply (wp_loadW m c r p) $$ Hw; iintro Hw
  iapply (wp_putAcc m κ σ c r 0 p _ _ (above_mono above_all (Nat.zero_le _) (Nat.le_refl _))) $$ [Hac Hs0 Hl HO]
  · isplitr; · iexact Hr
    isplitl [Hac]; · iexact Hac
    isplitl [Hs0]; · iexact Hs0
    isplitl [Hl]; · iexact Hl
    iexact HO
  iintro ⟨Hac, Hs0, Hl, HO⟩
  iapply (wp_sendSlot m κ σ c r 0 1 p 0 (by decide) rfl rfl (rem_snd0 r p)) $$ [Hs0 Hs1 HO Hg]
  · isplitr; · iexact Hr
    isplitl [Hs0]; · iexact Hs0
    isplitl [Hs1]; · iexact Hs1
    isplitl [HO]; · iexact HO
    isplitl [Hg]; · iexact Hg
    isplitr; · iapply (recs_reached m κ σ (c, .inl (0, r, 0, p))) $$ Hr
    iapply (recs_reached m κ σ (dnD r c, .inl (1, r, 1, p))) $$ Hr
  iintro ⟨Hc, HO⟩
  iapply Hk
  isplitl [Hx Hw Hst Hac Hob Hl]
  · isplitl [Hx]; · iexact Hx
    isplitl [Hw]; · iexact Hw
    isplitl [Hst]; · iexact Hst
    isplitl [Hac]; · iexact Hac
    isplitl [Hob] <;> iassumption
  isplitl [HO] <;> iassumption

/-! ## A ring step -/

theorem sl_val (s : Fin 2) : s = sl s.val := by revert s; decide
theorem sl_add (s : Fin 2) : s = sl (s.val + 1 + 1) := by revert s; decide

def stepPre (s : Fin 2) (c : Dev nD) (r : Fin 2) (p : Fin 8) : sProp 𝕄 :=
  iprop(sdc s.val c r p ∗ recvG s.val c r p
    ∗ Release.writeTok ES (dnD r c, r, s, p) 1 ∗ Release.readerAt ES (c, r, s, p) 0
    ∗ cred (tallyAt (crC r c) (elv (.crd s.val r p)) 1) ∗ dutyTok ER (crC r (upD r c)) 0 (8 * s.val + p.val)
    ∗ sendG (s.val + 1) c r p ∗ reached ER (sdG r (sl (s.val + 1)) p c) ((s.val + 1) / 2)
    ∗ atPos ER (rvG r (sl (s.val + 1)) p c) (s.val / 2) ∅ 0 ∗ atPos ER (sdG r s p c) (s.val / 2) ∅ 0)

def stepPost (s : Fin 2) (c : Dev nD) (r : Fin 2) (p : Fin 8) : sProp 𝕄 :=
  iprop(sdc (s.val + 1) c r p
    ∗ atPos ER (rvG r (sl (s.val + 1)) p c) (s.val / 2 + 1) ∅ 0 ∗ atPos ER (sdG r s p c) (s.val / 2 + 1) ∅ 0
    ∗ reached ER (sdG r s p c) (s.val / 2 + 1))

theorem step_reached (s : Fin 2) :
    iprop(facts r c (8 * s.val + p.val) ∗ reached ER (rvG r (sl (s.val + 1)) p c) (s.val / 2 + 1))
      ⊢ (reached ER (rvG r 1 p c) 1 : sProp 𝕄) := by
  match s with
  | 0 => iintro ⟨-, H⟩; iexact H
  | 1 =>
    iintro ⟨#H, -⟩
    ihave #H' := (facts_elim (F := F) r c 0 p (n := 8 * (1 : Fin 2).val + p.val) (by show 8 * 0 + p.val < 8 * 1 + p.val; omega)) $$ H
    unfold fact
    icases H' with ⟨-, #H''⟩
    iexact H''

theorem step_reached' (s : Fin 2) :
    iprop(recs m κ σ ∗ fact r (dnD r c) (s, p)) ⊢ (reached ER (rvG r s p (dnD r c)) ((s.val + 1) / 2) : sProp 𝕄) := by
  match s with
  | 0 => iintro ⟨H, -⟩; iapply (recs_reached m κ σ (dnD r c, .inl (1, r, 0, p))) $$ H
  | 1 =>
    unfold fact
    iintro ⟨-, -, H⟩; iexact H

theorem wp_step (s : Fin 2) (k : PUnit → BProg F PUnit) (Q : PUnit → sProp 𝕄) :
    iprop(recs m κ σ ∗ bufs m c ∗ owesN c (18 + 32 * s.val + 2 * (2 * p.val + r.val))
        ∗ facts r c (8 * s.val + p.val) ∗ crSt c r (8 * s.val + p.val) ∗ stepPre s c r p)
      ⊢ iprop(((bufs m c ∗ owesN c (18 + 32 * s.val + 2 * (2 * p.val + r.val + 1))
            ∗ facts r c (8 * s.val + p.val + 1) ∗ crSt c r (8 * s.val + p.val + 1) ∗ stepPost s c r p) -∗ WP c (k ⟨⟩) Q)
        -∗ WP c (step xM wM (cmM r) (cmM_whole r) stM stM_whole acM acM_whole (sdA r) (rvA r) lcS (crS r)
            (xo r (s.val + 1) c) (xo_inb r (s.val + 1) c) (dnD r c) (upD r c) r (sl (s.val + 1)) s p >>= k) Q) := by
  unfold bufs stepPre stepPost step
  simp only [Prog.bind_assoc]
  have hs := s.isLt
  iintro ⟨#Hr, ⟨Hx, Hw, Hst, Hac, Hob, Hl⟩, HO, #Hf, Hcr, Hsd, Hrc, Hwt, Hrd, Hcc, Hdt, Hg, #Hre, Ha1, Ha2⟩ Hk
  iapply (wp_recv m κ σ c r (sl (s.val + 1)) s p _ s.val (by omega) rfl (sl_val s) (above_recv s r p)) $$ [Hsd Hrc Ha1 Ha2 HO]
  · isplitr; · iexact Hr
    isplitl [Hrc]; · iexact Hrc
    isplitl [Hsd]; · iexact Hsd
    isplitl [Ha1]; · iexact Ha1
    isplitl [Ha2]; · iexact Ha2
    iexact HO
  iintro ⟨Hin, Hout, Ha1, #Hr1, Ha2, #Hr2, HO⟩
  iapply (wp_credit m κ σ c r p s (rem_step s r p)) $$ [Hrd Hout Hdt HO]
  · isplitr; · iexact Hr
    isplitl [Hrd]; · iexact Hrd
    isplitl [Hout]; · iapply (own_any c r s p _) $$ Hout
    isplitr
    · iapply (step_reached (F := F) c r p s)
      isplitr; · iexact Hf
      iexact Hr1
    isplitr; · iexact Hf
    isplitl [Hdt]; · iexact Hdt
    iexact HO
  iintro ⟨#Hf', HO⟩
  iapply (wp_stageStart c r (sl (s.val + 1)) p) $$ [Hst Hin Hl]
  · isplitl [Hst]; · iexact Hst
    isplitl [Hin] <;> iassumption
  iintro Hfl
  iapply (wp_loadX m c r (s.val + 1)) $$ Hx; iintro Hx
  iapply (wp_loadW m c r p) $$ Hw; iintro Hw
  iapply (wp_stageWait m κ σ c r (sl (s.val + 1)) p _ _ (above_mono above_all (Nat.zero_le _) (Nat.le_refl _))) $$ [Hfl HO]
  · isplitr; · iexact Hr
    isplitl [Hfl] <;> iassumption
  unfold staged
  iintro ⟨⟨Hst, Hin⟩, Hl, HO⟩
  iapply (wp_loadSt c) $$ Hst; iintro Hst
  iapply (wp_putAcc m κ σ c r (sl (s.val + 1)) p _ _ (above_mono above_all (Nat.zero_le _) (Nat.le_refl _))) $$ [Hac Hin Hl HO]
  · isplitr; · iexact Hr
    isplitl [Hac]; · iexact Hac
    isplitl [Hin]; · iapply (own_any c r (sl (s.val + 1)) p _) $$ Hin
    isplitl [Hl]; · iexact Hl
    iexact HO
  iintro ⟨Hac, Hs0, Hl, HO⟩
  iapply (wp_creditWait m κ σ c r p _ s (above_crd s r p)) $$ [Hcr Hcc HO]
  · isplitr; · iexact Hr
    isplitl [Hcr]; · iexact Hcr
    isplitl [Hcc] <;> iassumption
  iintro ⟨Hcr, #Hfa, HO⟩
  imod (Release.slot_take ES (k := (dnD r c, r, s, p)) (ι := σ (dnD r c, r, s, p)) (S := anySlot (F := F) (dnD r c, r, s, p)) (Set.mem_univ _) 1)
    $$ [Hwt] with Hs1
  · isplitr; · iapply (recs_slot m κ σ (dnD r c, r, s, p)) $$ Hr
    isplitr
    · unfold fact; icases Hfa with ⟨#H1, -⟩; iexact H1
    iexact Hwt
  iapply (wp_sendSlot m κ σ c r (sl (s.val + 1)) s p (s.val + 1) (by omega) (sl_add s) rfl (rem_step' s r p)) $$ [Hs0 Hs1 HO Hg]
  · isplitr; · iexact Hr
    isplitl [Hs0]; · iexact Hs0
    isplitl [Hs1]; · iexact Hs1
    isplitl [HO]; · iexact HO
    isplitl [Hg]; · iexact Hg
    isplitr; · iexact Hre
    iapply (step_reached' m κ σ c r p s)
    isplitr; · iexact Hr
    iexact Hfa
  iintro ⟨Hc, HO⟩
  iapply Hk
  isplitl [Hx Hw Hst Hac Hob Hl]
  · isplitl [Hx]; · iexact Hx
    isplitl [Hw]; · iexact Hw
    isplitl [Hst]; · iexact Hst
    isplitl [Hac]; · iexact Hac
    isplitl [Hob] <;> iassumption
  isplitl [HO]; · iexact HO
  isplitr; · iexact Hf'
  isplitl [Hcr]; · iexact Hcr
  isplitl [Hc]; · iexact Hc
  isplitl [Ha1]; · iexact Ha1
  isplitl [Ha2]; · iexact Ha2
  iexact Hr2

/-! ## The last step -/

def finPre (c : Dev nD) (r : Fin 2) (p : Fin 8) : sProp 𝕄 :=
  iprop(sdc 2 c r p ∗ recvG 2 c r p ∗ atPos ER (rvG r 1 p c) 1 ∅ 0 ∗ atPos ER (sdG r 0 p c) 1 ∅ 0 ∗ outAny c r p)
def finPost (c : Dev nD) (r : Fin 2) (p : Fin 8) : sProp 𝕄 :=
  iprop(atPos ER (rvG r 1 p c) 2 ∅ 0 ∗ atPos ER (sdG r 0 p c) 2 ∅ 0 ∗ outIs c r p (outP m r c p))

theorem fin_eq (x : Memref sig .tc .vmem S4096x1024 .i8) (w : Memref sig .tc .vmem S1024x8192 .i8)
    (o : Memref sig .tc .hbm S1024x8192 .f32) (cm : Memref sig .tc .hbm S2x8x1024x512 .bf16) (hcm : cm.IsWhole)
    (st : Memref sig .tc .vmem S1024x512 .bf16) (hst : st.IsWhole) (ob : Memref sig .tc .vmem S1024x512 .f32) (hob : ob.IsWhole)
    (sS sR : DmaSems sig S2x8) (lc : DmaSem sig) (xo : Fin 2 → Nat) (hxo) (r : Fin 2) (p : Fin 8) (sc : F .f32) :
    fin (F := F) x w o cm hcm st hst ob hob sS sR lc xo hxo r p sc
      = (recv cm hcm sS sR 1 0 p >>= fun _ => stageStart cm hcm st hst lc 1 p >>= fun _ => loadX x xo hxo >>= fun a =>
          loadW w r p >>= fun b => stageWait cm hcm st hst lc 1 p >>= fun _ => loadB st >>= fun v =>
          putOut o ob hob lc r p (pay2 sc a b v)) := rfl

theorem wp_fin (k : PUnit → BProg F PUnit) (Q : PUnit → sProp 𝕄) :
    iprop(recs m κ σ ∗ bufs m c ∗ owesN c 82 ∗ finPre c r p)
      ⊢ iprop(((bufs m c ∗ owesN c 82 ∗ finPost m c r p) -∗ WP c (k ⟨⟩) Q)
        -∗ WP c (fin xM wM oM (cmM r) (cmM_whole r) stM stM_whole obM obM_whole (sdA r) (rvA r) lcS
            (xo r 3 c) (xo_inb r 3 c) r p (scl m c) >>= k) Q) := by
  rw [fin_eq]
  unfold bufs finPre finPost
  simp only [Prog.bind_assoc]
  iintro ⟨#Hr, ⟨Hx, Hw, Hst, Hac, Hob, Hl⟩, HO, Hsd, Hrc, Ha1, Ha2, Hout⟩ Hk
  iapply (wp_recv m κ σ c r 1 0 p _ 2 (by decide) rfl rfl (above_end _)) $$ [Hsd Hrc Ha1 Ha2 HO]
  · isplitr; · iexact Hr
    isplitl [Hrc]; · iexact Hrc
    isplitl [Hsd]; · iexact Hsd
    isplitl [Ha1]; · iexact Ha1
    isplitl [Ha2]; · iexact Ha2
    iexact HO
  iintro ⟨Hin, -, Ha1, -, Ha2, -, HO⟩
  iapply (wp_stageStart c r 1 p) $$ [Hst Hin Hl]
  · isplitl [Hst]; · iexact Hst
    isplitl [Hin] <;> iassumption
  iintro Hfl
  iapply (wp_loadX m c r 3) $$ Hx; iintro Hx
  iapply (wp_loadW m c r p) $$ Hw; iintro Hw
  iapply (wp_stageWait m κ σ c r 1 p _ _ (above_end _)) $$ [Hfl HO]
  · isplitr; · iexact Hr
    isplitl [Hfl] <;> iassumption
  unfold staged
  iintro ⟨⟨Hst, -⟩, Hl, HO⟩
  iapply (wp_loadSt c) $$ Hst; iintro Hst
  iapply (wp_putOut m κ σ c r p _ _ (above_end _)) $$ [Hob Hout Hl HO]
  · isplitr; · iexact Hr
    isplitl [Hob]; · iexact Hob
    isplitl [Hout]; · iexact Hout
    isplitl [Hl]; · iexact Hl
    iexact HO
  iintro ⟨Hob, Hout, Hl, HO⟩
  iapply Hk
  isplitl [Hx Hw Hst Hac Hob Hl]
  · isplitl [Hx]; · iexact Hx
    isplitl [Hw]; · iexact Hw
    isplitl [Hst]; · iexact Hst
    isplitl [Hac]; · iexact Hac
    isplitl [Hob] <;> iassumption
  isplitl [HO]; · iexact HO
  isplitl [Ha1]; · iexact Ha1
  isplitl [Ha2]; · iexact Ha2
  iexact Hout

end Cert.KernelIdeal.Own
-- ==== Proof.Loops.lean ====
/- The kernel's loops over the pieces, and its whole body. -/
module

public import proofs.«01_k».proof.Proof.Steps

@[expose] public section

set_option maxRecDepth 10000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig ℕ (Elt F) ℕ UU ℕ
variable (m : (ℓ : Loc nD τ sig) → Buf (Elt F) ℓ)
variable (κ : Dev nD × Ck → ℕ) (σ : Key → ℕ)
variable (c : Dev nD)

/-! ## Loops -/

/-- A loop over the pieces, each piece taking both rings in turn: `I k` holds before the `k`-th block. -/
theorem wp_pieces (I : ℕ → sProp 𝕄) (g : Fin 2 → Fin 8 → BProg F PUnit)
    (h : ∀ (r : Fin 2) (p : Fin 8) (k : PUnit → BProg F PUnit) (Q : PUnit → sProp 𝕄),
      I (2 * p.val + r.val) ⊢ iprop((I (2 * p.val + r.val + 1) -∗ WP c (k ⟨⟩) Q) -∗ WP c (g r p >>= k) Q))
    (k : BProg F PUnit) (Q : PUnit → sProp 𝕄) (ps : List (Fin 8)) (j : ℕ)
    (hps : ∀ i (hi : i < ps.length), (ps[i]).val = j + i) :
    I (2 * j) ⊢ iprop((I (2 * (j + ps.length)) -∗ WP c k Q)
      -∗ WP c (pieces (fun p => g 0 p >>= fun _ => g 1 p) k ps) Q) := by
  induction ps generalizing j with
  | nil =>
    iintro H Hk
    iapply Hk; iexact H
  | cons p ps ih =>
    have hp : p.val = j := hps 0 (Nat.zero_lt_succ _)
    show I (2 * j) ⊢ iprop((I (2 * (j + (ps.length + 1))) -∗ WP c k Q)
      -∗ WP c ((g 0 p >>= fun _ => g 1 p) >>= fun _ => pieces (fun p => g 0 p >>= fun _ => g 1 p) k ps) Q)
    rw [show 2 * (j + (ps.length + 1)) = 2 * (j + 1 + ps.length) by omega]
    simp only [Prog.bind_assoc]
    have h0 := h 0 p (fun _ => g 1 p >>= fun _ => pieces (fun p => g 0 p >>= fun _ => g 1 p) k ps) Q
    have h1 := h 1 p (fun _ => pieces (fun p => g 0 p >>= fun _ => g 1 p) k ps) Q
    rw [show 2 * p.val + (0 : Fin 2).val = 2 * j by rw [hp]; rfl] at h0
    rw [show 2 * p.val + (1 : Fin 2).val = 2 * j + 1 by rw [hp]; rfl] at h1
    have h2 := ih (j + 1) (fun i hi => by
      have := hps (i + 1) (Nat.succ_lt_succ hi)
      rw [List.getElem_cons_succ] at this; omega)
    iintro H Hk
    iapply h0 $$ H; iintro H
    iapply h1 $$ H; iintro H
    iapply h2 $$ H
    iexact Hk

/-- One resource per ring and piece. -/
def allP (f : Fin 2 → Fin 8 → sProp 𝕄) : sProp 𝕄 := bigSep Finset.univ fun x : Fin 2 × Fin 8 => f x.1 x.2
/-- The same, the first `k` blocks done. -/
def mixP (A Z : Fin 2 → Fin 8 → sProp 𝕄) (k : ℕ) : sProp 𝕄 :=
  allP fun r p => if 2 * p.val + r.val < k then Z r p else A r p
/-- One resource per ring, after `k` blocks: `(k + 1 - r) / 2` of them were ring `r`'s. -/
def allR (f : Fin 2 → ℕ → sProp 𝕄) (k : ℕ) : sProp 𝕄 := bigSep Finset.univ fun r : Fin 2 => f r ((k + 1 - r.val) / 2)

theorem mixP_take (A Z : Fin 2 → Fin 8 → sProp 𝕄) (r : Fin 2) (p : Fin 8) :
    mixP A Z (2 * p.val + r.val) ⊢ iprop(A r p ∗ (Z r p -∗ mixP A Z (2 * p.val + r.val + 1))) := by
  unfold mixP allP
  have h := bigSep_univ_update (Φ := fun x : Fin 2 × Fin 8 => if 2 * x.2.val + x.1.val < 2 * p.val + r.val then Z x.1 x.2 else A x.1 x.2)
    (Ψ := fun x : Fin 2 × Fin 8 => if 2 * x.2.val + x.1.val < 2 * p.val + r.val + 1 then Z x.1 x.2 else A x.1 x.2) (r, p) (fun x hx => by
      have hne : 2 * x.2.val + x.1.val ≠ 2 * p.val + r.val := fun he => hx (by
        have := x.1.isLt; have := r.isLt
        exact Prod.ext (Fin.ext (show x.1.val = r.val by omega)) (Fin.ext (show x.2.val = p.val by omega)))
      by_cases hlt : 2 * x.2.val + x.1.val < 2 * p.val + r.val
      · rw [if_pos hlt, if_pos (by omega)]
      · rw [if_neg hlt, if_neg (by omega)])
  dsimp only at h
  rw [if_neg (Nat.lt_irrefl _), if_pos (Nat.lt_succ_self _)] at h
  exact h

theorem mixP_zero (A Z : Fin 2 → Fin 8 → sProp 𝕄) : mixP A Z 0 = allP A := by
  unfold mixP; congr 1
theorem mixP_end (A Z : Fin 2 → Fin 8 → sProp 𝕄) : mixP A Z 16 = allP Z := by
  unfold mixP; congr 1; funext r p; exact if_pos (by have := r.isLt; have := p.isLt; omega)

theorem allR_take (f : Fin 2 → ℕ → sProp 𝕄) (r : Fin 2) (p : Fin 8) :
    allR f (2 * p.val + r.val) ⊢ iprop(f r p.val ∗ (f r (p.val + 1) -∗ allR f (2 * p.val + r.val + 1))) := by
  unfold allR
  have h := bigSep_univ_update (Φ := fun x : Fin 2 => f x ((2 * p.val + r.val + 1 - x.val) / 2))
    (Ψ := fun x : Fin 2 => f x ((2 * p.val + r.val + 1 + 1 - x.val) / 2)) r (fun x hx => by
      have hne : x.val ≠ r.val := fun he => hx (Fin.ext he)
      have := x.isLt; have := r.isLt
      congr 1; omega)
  rw [show (2 * p.val + r.val + 1 - r.val) / 2 = p.val by omega,
    show (2 * p.val + r.val + 1 + 1 - r.val) / 2 = p.val + 1 by omega] at h
  exact h

theorem allP_sep (f g : Fin 2 → Fin 8 → sProp 𝕄) :
    allP (fun r p => iprop(f r p ∗ g r p)) = iprop(allP f ∗ allP g) := bigSep_sep' _ _ _
theorem allP_with {R : sProp 𝕄} [BI.Persistent R] {f g : Fin 2 → Fin 8 → sProp 𝕄}
    (h : ∀ r p, iprop(R ∗ f r p) ⊢ g r p) : iprop(R ∗ allP f) ⊢ allP g :=
  bigSep_with_persistent fun x _ => h x.1 x.2

/-- The three loops' state before the `k`-th block. -/
def initI (k : ℕ) : sProp 𝕄 :=
  iprop(recs m κ σ ∗ bufs m c ∗ owesN c (2 + k) ∗ mixP (initPre c) (sdc 0 c) k)
def stepI (s : Fin 2) (k : ℕ) : sProp 𝕄 :=
  iprop(recs m κ σ ∗ bufs m c ∗ owesN c (18 + 32 * s.val + 2 * k)
    ∗ allR (fun r j => iprop(facts r c (8 * s.val + j) ∗ crSt c r (8 * s.val + j))) k ∗ mixP (stepPre s c) (stepPost s c) k)
def finI (k : ℕ) : sProp 𝕄 :=
  iprop(recs m κ σ ∗ bufs m c ∗ owesN c 82 ∗ mixP (finPre c) (finPost m c) k)

theorem initI_step (r : Fin 2) (p : Fin 8) (k : PUnit → BProg F PUnit) (Q : PUnit → sProp 𝕄) :
    initI m κ σ c (2 * p.val + r.val) ⊢ iprop((initI m κ σ c (2 * p.val + r.val + 1) -∗ WP c (k ⟨⟩) Q)
      -∗ WP c (init xM wM (cmM r) (cmM_whole r) acM acM_whole (sdA r) (rvA r) lcS (xo r 0 c) (xo_inb r 0 c) (dnD r c) r p >>= k) Q) := by
  unfold initI
  iintro ⟨#Hr, Hb, HO, Hm⟩ Hk
  ihave Hm := (mixP_take (initPre (F := F) c) (sdc 0 c) r p) $$ Hm
  icases Hm with ⟨Ha, Hz⟩
  iapply (wp_init m κ σ c r p) $$ [Hb HO Ha]
  · isplitr; · iexact Hr
    isplitl [Hb]; · iexact Hb
    isplitl [HO] <;> iassumption
  iintro ⟨Hb, HO, Ha⟩
  iapply Hk
  isplitr; · iexact Hr
  isplitl [Hb]; · iexact Hb
  isplitl [HO]; · iexact HO
  iapply Hz; iexact Ha

theorem stepI_step (s r : Fin 2) (p : Fin 8) (k : PUnit → BProg F PUnit) (Q : PUnit → sProp 𝕄) :
    stepI m κ σ c s (2 * p.val + r.val) ⊢ iprop((stepI m κ σ c s (2 * p.val + r.val + 1) -∗ WP c (k ⟨⟩) Q)
      -∗ WP c (step xM wM (cmM r) (cmM_whole r) stM stM_whole acM acM_whole (sdA r) (rvA r) lcS (crS r)
            (xo r (s.val + 1) c) (xo_inb r (s.val + 1) c) (dnD r c) (upD r c) r (sl (s.val + 1)) s p >>= k) Q) := by
  unfold stepI
  iintro ⟨#Hr, Hb, HO, Hc, Hm⟩ Hk
  ihave Hm := (mixP_take (stepPre (F := F) s c) (stepPost s c) r p) $$ Hm
  icases Hm with ⟨Ha, Hz⟩
  ihave Hc := (allR_take (fun r j => iprop(facts (F := F) r c (8 * s.val + j) ∗ crSt c r (8 * s.val + j))) r p) $$ Hc
  icases Hc with ⟨⟨Hf, Hc⟩, Hy⟩
  iapply (wp_step m κ σ c r p s) $$ [Hb HO Ha Hf Hc]
  · isplitr; · iexact Hr
    isplitl [Hb]; · iexact Hb
    isplitl [HO]; · iexact HO
    isplitl [Hf]; · iexact Hf
    isplitl [Hc] <;> iassumption
  iintro ⟨Hb, HO, Hf, Hc, Ha⟩
  iapply Hk
  isplitr; · iexact Hr
  isplitl [Hb]; · iexact Hb
  isplitl [HO]; · iexact HO
  isplitl [Hf Hc Hy]
  · iapply Hy
    isplitl [Hf]; · iexact Hf
    iexact Hc
  iapply Hz; iexact Ha

theorem finI_step (r : Fin 2) (p : Fin 8) (k : PUnit → BProg F PUnit) (Q : PUnit → sProp 𝕄) :
    finI m κ σ c (2 * p.val + r.val) ⊢ iprop((finI m κ σ c (2 * p.val + r.val + 1) -∗ WP c (k ⟨⟩) Q)
      -∗ WP c (fin xM wM oM (cmM r) (cmM_whole r) stM stM_whole obM obM_whole (sdA r) (rvA r) lcS
            (xo r 3 c) (xo_inb r 3 c) r p (scl m c) >>= k) Q) := by
  unfold finI
  iintro ⟨#Hr, Hb, HO, Hm⟩ Hk
  ihave Hm := (mixP_take (finPre (F := F) c) (finPost m c) r p) $$ Hm
  icases Hm with ⟨Ha, Hz⟩
  iapply (wp_fin m κ σ c r p) $$ [Hb HO Ha]
  · isplitr; · iexact Hr
    isplitl [Hb]; · iexact Hb
    isplitl [HO] <;> iassumption
  iintro ⟨Hb, HO, Ha⟩
  iapply Hk
  isplitr; · iexact Hr
  isplitl [Hb]; · iexact Hb
  isplitl [HO]; · iexact HO
  iapply Hz; iexact Ha

end Cert.KernelIdeal.Own
-- ==== Proof.Body.lean ====
/- The kernel's whole body on one device, from what the launch deals it to every cell at rest again. -/
module

public import proofs.«01_k».proof.Proof.Loops

@[expose] public section

set_option maxRecDepth 10000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig ℕ (Elt F) ℕ UU ℕ
variable (m : (ℓ : Loc nD τ sig) → Buf (Elt F) ℓ)
variable (κ : Dev nD × Ck → ℕ) (σ : Key → ℕ)
variable (c : Dev nD)

/-! ## Families over rings and pieces -/

theorem allP_re {R : sProp 𝕄} [BI.Persistent R] {f g f' g' : Fin 2 → Fin 8 → sProp 𝕄}
    (h : ∀ r p, iprop(R ∗ (f r p ∗ g r p)) ⊢ iprop(f' r p ∗ g' r p)) :
    iprop(R ∗ (allP f ∗ allP g)) ⊢ iprop(allP f' ∗ allP g') := by
  rw [← allP_sep, ← allP_sep]; exact allP_with h

theorem allP_rings (f : Fin 2 → Fin 8 → sProp 𝕄) :
    allP f = iprop(bigSep Finset.univ (fun p : Fin 8 => f 0 p) ∗ bigSep Finset.univ (fun p : Fin 8 => f 1 p)) := by
  unfold allP; rw [bigSep_univ_prod, bigSep_fin_two]; rfl

theorem allP_fupd (f : Fin 2 → Fin 8 → sProp 𝕄) {R : sProp 𝕄} [BI.Persistent R] (g : Fin 2 → Fin 8 → sProp 𝕄)
    (h : ∀ r p, iprop(R ∗ f r p) ⊢ iprop(|={Set.univ}=> g r p)) :
    iprop(R ∗ allP f) ⊢ iprop(|={Set.univ}=> allP g) :=
  (bigSep_with_persistent (R := R) (Φ := fun x : Fin 2 × Fin 8 => f x.1 x.2) (Ψ := fun x => iprop(|={Set.univ}=> g x.1 x.2))
    (fun x _ => h x.1 x.2)).trans (bigSep_fupd _ _)

/-- A family over the transfer cells, by ring and piece. -/
def cellEquiv : (Fin 2 × Fin 8) × (Fin 2 × Fin 2) ≃ Fin 2 × Fin 2 × Fin 2 × Fin 8 where
  toFun x := (x.2.1, x.1.1, x.2.2, x.1.2)
  invFun y := ((y.2.1, y.2.2.2), (y.1, y.2.2.1))
  left_inv _ := rfl
  right_inv _ := rfl

theorem xfer_split (Φ : Fin 2 × Fin 2 × Fin 2 × Fin 8 → sProp 𝕄) :
    bigSep Finset.univ Φ = allP fun r p => iprop((Φ (0, r, 0, p) ∗ Φ (0, r, 1, p)) ∗ (Φ (1, r, 0, p) ∗ Φ (1, r, 1, p))) := by
  rw [bigSep_univ_equiv cellEquiv, bigSep_univ_prod]
  unfold allP
  refine bigSep_congr fun x _ => ?_
  rw [bigSep_univ_prod, bigSep_fin_two, bigSep_fin_two, bigSep_fin_two]
  rfl

theorem cells_split (Φ : Ck → sProp 𝕄) :
    bigSep Finset.univ Φ = iprop((allP fun r p => iprop((Φ (.inl (0, r, 0, p)) ∗ Φ (.inl (0, r, 1, p))) ∗ (Φ (.inl (1, r, 0, p)) ∗ Φ (.inl (1, r, 1, p)))))
      ∗ (Φ (.inr 0) ∗ (Φ (.inr 1) ∗ Φ (.inr 2)))) := by
  rw [bigSep_univ_sum, xfer_split]
  congr 1
  rw [show (Finset.univ : Finset (Fin 3)) = {0, 1, 2} by decide, bigSep_insert (by decide), bigSep_insert (by decide), bigSep_singleton]
  rfl

/-! ## What a block still needs, from one loop to the next -/

def stepRes (s : Fin 2) (r : Fin 2) (p : Fin 8) : sProp 𝕄 :=
  iprop(recvG s.val c r p
    ∗ Release.writeTok ES (dnD r c, r, s, p) 1 ∗ Release.readerAt ES (c, r, s, p) 0
    ∗ cred (tallyAt (crC r c) (elv (.crd s.val r p)) 1) ∗ dutyTok ER (crC r (upD r c)) 0 (8 * s.val + p.val)
    ∗ sendG (s.val + 1) c r p)
def rest2 (r : Fin 2) (p : Fin 8) : sProp 𝕄 :=
  iprop(recvG 2 c r p ∗ atPos ER (rvG r 1 p c) 1 ∅ 0 ∗ atPos ER (sdG r 0 p c) 1 ∅ 0 ∗ outAny c r p)
def rest1 (r : Fin 2) (p : Fin 8) : sProp 𝕄 :=
  iprop(stepRes c 1 r p ∗ recvG 2 c r p ∗ atPos ER (rvG r 0 p c) 0 ∅ 0 ∗ atPos ER (sdG r 1 p c) 0 ∅ 0 ∗ outAny c r p)
def rest0 (r : Fin 2) (p : Fin 8) : sProp 𝕄 :=
  iprop(stepRes c 0 r p ∗ stepRes c 1 r p ∗ recvG 2 c r p
    ∗ ((atPos ER (sdG r 0 p c) 0 ∅ 0 ∗ atPos ER (sdG r 1 p c) 0 ∅ 0) ∗ (atPos ER (rvG r 0 p c) 0 ∅ 0 ∗ atPos ER (rvG r 1 p c) 0 ∅ 0))
    ∗ outAny c r p)
def rest3 (r : Fin 2) (p : Fin 8) : sProp 𝕄 :=
  iprop(atPos ER (rvG r 0 p c) 1 ∅ 0 ∗ atPos ER (sdG r 1 p c) 1 ∅ 0)

theorem to_step0 : iprop(recs m κ σ ∗ (allP (sdc 0 c) ∗ allP (rest0 c))) ⊢ iprop(allP (stepPre 0 c) ∗ allP (rest1 c)) :=
  allP_re fun r p => by
    unfold rest0 rest1 stepPre stepRes
    iintro ⟨#Hr, Hs, ⟨A1, A2, A3, A4, A5, A6⟩, HB, HC, ⟨⟨P1, P2⟩, P3, P4⟩, Ho⟩
    isplitl [Hs A1 A2 A3 A4 A5 A6 P4 P1]
    · isplitl [Hs]; · iexact Hs
      isplitl [A1]; · iexact A1
      isplitl [A2]; · iexact A2
      isplitl [A3]; · iexact A3
      isplitl [A4]; · iexact A4
      isplitl [A5]; · iexact A5
      isplitl [A6]; · iexact A6
      isplitr; · iapply (recs_reached m κ σ (c, .inl (0, r, 1, p))) $$ Hr
      isplitl [P4]; · iexact P4
      iexact P1
    isplitl [HB]; · iexact HB
    isplitl [HC]; · iexact HC
    isplitl [P3]; · iexact P3
    isplitl [P2]; · iexact P2
    iexact Ho

theorem to_step1 : iprop(recs m κ σ ∗ (allP (stepPost 0 c) ∗ allP (rest1 c))) ⊢ iprop(allP (stepPre 1 c) ∗ allP (rest2 c)) :=
  allP_re fun r p => by
    unfold rest1 rest2 stepPre stepPost stepRes
    iintro ⟨-, ⟨Hs, Q1, Q2, Q3⟩, ⟨A1, A2, A3, A4, A5, A6⟩, HC, P3, P2, Ho⟩
    isplitl [Hs A1 A2 A3 A4 A5 A6 Q3 P3 P2]
    · isplitl [Hs]; · iexact Hs
      isplitl [A1]; · iexact A1
      isplitl [A2]; · iexact A2
      isplitl [A3]; · iexact A3
      isplitl [A4]; · iexact A4
      isplitl [A5]; · iexact A5
      isplitl [A6]; · iexact A6
      isplitl [Q3]; · iexact Q3
      isplitl [P3]; · iexact P3
      iexact P2
    isplitl [HC]; · iexact HC
    isplitl [Q1]; · iexact Q1
    isplitl [Q2]; · iexact Q2
    iexact Ho

theorem to_fin : iprop(recs m κ σ ∗ (allP (stepPost 1 c) ∗ allP (rest2 c))) ⊢ iprop(allP (finPre c) ∗ allP (rest3 c)) :=
  allP_re fun r p => by
    unfold rest2 rest3 stepPost finPre
    iintro ⟨-, ⟨Hs, Q1, Q2, -⟩, HC, P1, P2, Ho⟩
    isplitl [Hs HC P1 P2 Ho]
    · isplitl [Hs]; · iexact Hs
      isplitl [HC]; · iexact HC
      isplitl [P1]; · iexact P1
      isplitl [P2]; · iexact P2
      iexact Ho
    isplitl [Q1]; · iexact Q1
    iexact Q2

/-! ## Every cell at rest -/

theorem close_xfer (b r q : Fin 2) (p : Fin 8) :
    iprop(recs m κ σ ∗ atPos ER ((c : Thread nD τ), .dma (dsem b r q p)) (if b = q then 2 else 1) ∅ 0)
      ⊢ iprop(|={Set.univ}=> semVal ((c : Thread nD τ), .dma (dsem b r q p)) 0) := by
  iintro ⟨#Hr, Ha⟩
  imod (Rounds.cell_close ER (Rd m) (g := ((c : Thread nD τ), .dma (dsem b r q p))) (Set.mem_univ (κ (c, .inl (b, r, q, p)))) (fun h => h)
    (R := if b = q then 2 else 1) (duties_dma_later m b r q p c)) $$ [Ha] with H
  · isplitr; · iapply (recs_inv m κ σ (c, .inl (b, r, q, p))) $$ Hr
    iexact Ha
  imodintro; iexact H

theorem close_bar :
    iprop(recs m κ σ ∗ atPos ER (barC c) 1 ∅ 0) ⊢ iprop(|={Set.univ}=> semVal (barC c) 0) := by
  iintro ⟨#Hr, Ha⟩
  imod (Rounds.cell_close ER (Rd m) (g := barC c) (Set.mem_univ (κ (c, .inr 0))) (fun h => h)
    (R := 1) (duties_reg m (c : Thread nD τ) barS)) $$ [Ha] with H
  · isplitr; · iapply (recs_inv m κ σ (c, .inr 0)) $$ Hr
    iexact Ha
  imodintro; iexact H

theorem close_cr (r : Fin 2) :
    iprop(recs m κ σ ∗ crSt c r 16) ⊢ iprop(|={Set.univ}=> semVal (crC r c) 0) := by
  unfold crSt
  iintro ⟨#Hr, %T, %hT, Ha, -⟩
  have hTe : (Rd (F := F) m).duties (crC r c) 0 ⊆ T := by
    rw [duties_cr]; have := hT.2
    exact Finset.sdiff_eq_empty_iff_subset.mp (Finset.card_eq_zero.mp (by omega))
  imod (Rounds.fupd_skip ER (Rd m) (g := crC r c) (κ := κ (c, if r = 0 then .inr 1 else .inr 2)) hTe (expect_cr m r c).symm (Set.mem_univ _)) $$ [Ha] with ⟨Ha, -⟩
  · isplitr
    · match r with
      | 0 => iapply (recs_inv m κ σ (c, .inr 1)) $$ Hr
      | 1 => iapply (recs_inv m κ σ (c, .inr 2)) $$ Hr
    iexact Ha
  imod (Rounds.cell_close ER (Rd m) (g := crC r c) (κ := κ (c, if r = 0 then .inr 1 else .inr 2)) (Set.mem_univ _) (fun h => h)
    (R := 0 + 1) (duties_reg m (c : Thread nD τ) (crS r))) $$ [Ha] with H
  · isplitr
    · match r with
      | 0 => iapply (recs_inv m κ σ (c, .inr 1)) $$ Hr
      | 1 => iapply (recs_inv m κ σ (c, .inr 2)) $$ Hr
    iexact Ha
  imodintro; iexact H

/-- The transfer cells of a ring and piece at rest, and the result's piece. -/
def xferZ (r : Fin 2) (p : Fin 8) : sProp 𝕄 :=
  iprop((semVal (sdG r 0 p c) 0 ∗ semVal (sdG r 1 p c) 0) ∗ (semVal (rvG r 0 p c) 0 ∗ semVal (rvG r 1 p c) 0))

theorem close_all : iprop(recs m κ σ ∗ (allP (finPost m c) ∗ allP (rest3 c)))
    ⊢ iprop(|={Set.univ}=> (allP (xferZ c) ∗ allP (fun r p => outIs c r p (outP m r c p)))) := by
  rw [← allP_sep, ← allP_sep]
  refine allP_fupd _ _ fun r p => ?_
  unfold finPost rest3 xferZ
  iintro ⟨#Hr, ⟨A1, A2, A3⟩, B1, B2⟩
  imod (close_xfer m κ σ c 1 r 1 p) $$ [A1] with A1
  · isplitr; · iexact Hr
    iexact A1
  imod (close_xfer m κ σ c 0 r 0 p) $$ [A2] with A2
  · isplitr; · iexact Hr
    iexact A2
  imod (close_xfer m κ σ c 1 r 0 p) $$ [B1] with B1
  · isplitr; · iexact Hr
    iexact B1
  imod (close_xfer m κ σ c 0 r 1 p) $$ [B2] with B2
  · isplitr; · iexact Hr
    iexact B2
  imodintro
  isplitl [A1 A2 B1 B2]
  · isplitl [A2 B2]
    · isplitl [A2] <;> iassumption
    isplitl [B1] <;> iassumption
  iexact A3

/-! ## The barrier -/

theorem wp_barSignal (r : Fin 2) (n n' : ℕ) (hn : rem n = .bar r :: rem n') (k : PUnit → BProg F PUnit) (Q : PUnit → sProp 𝕄) :
    iprop(recs m κ σ ∗ owesN c n ∗ dutyTok ER (barC (upD r c)) 0 r.val ∗ barPay r c)
      ⊢ iprop((owesN c n' -∗ WP c (k ⟨⟩) Q) -∗ WP c (semSignalWord (upD r c) barS 1#32 >>= k) Q) := by
  unfold owesN
  simp only [semSignalWord, Prog.lift, Prog.bind_op, Prog.bind_ret]
  iintro ⟨#Hr, ⟨%W, HO⟩, Ht, Hp⟩ Hk
  iapply (Rounds.wp_signal 𝒱₀ ER (Rd m) (c : Thread nD τ) none (dst := (upD r c : Thread nD τ)) (sem := barS)
      (κ := κ (upD r c, .inr 0)) (r := 0)
      (d := r.val) (by rw [duties_bar]; clear hn; revert r; decide)
      (show (1 : ℕ) = _ by decide) (elv (.bar r)) (O₀ := owe (rem n) c) (owe (rem n') c) (by rw [hn]; rfl)) $$ [HO Ht Hp]
  · isplitr; · iapply (recs_inv m κ σ (upD r c, .inr 0)) $$ Hr
    isplitl [HO]; · iexact HO
    isplitl [Ht]; · iexact Ht
    isplitl [Hp]; · rw [payload_bar, dn_up]; iexact Hp
    iapply (recs_reached m κ σ (upD r c, .inr 0)) $$ Hr
  iintro HO
  iapply Hk
  iexists W; iexact HO

theorem rest_bar : bigSep ((Rd m).duties (barC c) 0 \ ∅) (fun d => (Rd m).payload (barC c) 0 d)
    ⊢ allP (fun r p => anySlot (F := F) (dnD r c, r, 1, p)) := by
  rw [duties_bar, allP_rings, Finset.sdiff_empty, bigSep_insert (by decide), bigSep_singleton]
  exact Entails.of_eq (congrArg₂ _ (payload_bar m 0 c) (payload_bar m 1 c))

theorem wp_barWait (k : PUnit → BProg F PUnit) (Q : PUnit → sProp 𝕄) :
    iprop(recs m κ σ ∗ owesN c 2 ∗ cred (tallyAt (barC c) 1 2) ∗ atPos ER (barC c) 0 ∅ 0)
      ⊢ iprop(((owesN c 2 ∗ atPos ER (barC c) 1 ∅ 0 ∗ allP (fun r p => anySlot (F := F) (dnD r c, r, 1, p))) -∗ WP c (k ⟨⟩) Q)
        -∗ WP c (semWaitWord barS 2#32 >>= k) Q) := by
  unfold owesN
  simp only [semWaitWord, Prog.lift, Prog.bind_op, Prog.bind_ret]
  iintro ⟨#Hr, ⟨%W, HO⟩, Hc, Ha⟩ Hk
  iapply (Rounds.wp_wait_rest_token 𝒱₀ ER (Rd m) (c : Thread nD τ) none (κ := κ (c, .inr 0)) (sm := .reg barS)
      (wpE_semWait_eq 𝒱₀ (c : Thread nD τ) none Set.univ) (Set.mem_univ _) 1 (O := owe (rem 2) c) (W := W) (R := 0) (m := 0) (T := ∅)
      (by rw [expect_bar]; decide)) $$ [Hc HO Ha]
  · isplitr; · iapply (recs_inv m κ σ (c, .inr 0)) $$ Hr
    isplitl [Hc]; · iexact Hc
    isplitl [HO]; · iexact HO
    isplitr
    · iapply (may_wait c (.reg barS) (by decide) above_bar)
      iapply (recs_lev m κ σ) $$ Hr
    iexact Ha
  iintro ⟨HO, Ha, -, Hp⟩
  iapply Hk
  isplitl [HO]; · iexists _; iexact HO
  isplitl [Ha]; · iexact Ha
  iapply (rest_bar m c) $$ Hp

/-! ## The scales -/

abbrev s1M : Memref sig .tc .smem S1 .f32 := Memref.whole cc0_stg2_0
abbrev s2M : Memref sig .tc .smem S1 .f32 := Memref.whole cc0_stg3_0
def s1Pts : sProp 𝕄 := iprop(s1M.view.loc (c : Thread nD τ) ↦[Finset.univ]{fullShare} s1stg m c)
def s2Pts : sProp 𝕄 := iprop(s2M.view.loc (c : Thread nD τ) ↦[Finset.univ]{fullShare} s2stg m c)

theorem wp_word (sm : Memref sig .tc .smem S1 .f32) (f : Buf (Elt F) (sm.view.loc (c : Thread nD τ))) (k : F .f32 → BProg F PUnit) (Q : PUnit → sProp 𝕄) :
    (sm.view.loc (c : Thread nD τ) ↦[Finset.univ]{fullShare} f)
      ⊢ iprop(((sm.view.loc (c : Thread nD τ) ↦[Finset.univ]{fullShare} f)
          -∗ WP c (k ((sm.access (Rect.unit (s := S1) ![0] S1.size inb_S1_S1_0)).read (Elt F) f (Shape.Idx.first (numel1_S1.symm ▸ Nat.one_pos)))) Q)
        -∗ WP c (smemLoad sm (Rect.unit (s := S1) ![0] S1.size inb_S1_S1_0) numel1_S1 rfl >>= k) Q) := by
  have e : (smemLoad sm (Rect.unit (s := S1) ![0] S1.size inb_S1_S1_0) numel1_S1 rfl >>= k : BProg F PUnit)
      = smemLoadElt sm (Rect.unit (s := S1) ![0] S1.size inb_S1_S1_0) (View.loads_smem_one rfl numel1_S1)
          (Shape.Idx.first (numel1_S1.symm ▸ Nat.one_pos)) k := rfl
  rw [e]
  exact wp_smemLoadElt 𝒱₀ (c : Thread nD τ) none Set.univ (m := sm) (r := Rect.unit (s := S1) ![0] S1.size inb_S1_S1_0)
    (x := Shape.Idx.first (numel1_S1.symm ▸ Nat.one_pos)) (Finset.subset_univ _)

/-! ## The whole body -/

/-- What the body starts from, beside the staged operands and its block buffers. -/
def start (r : Fin 2) (p : Fin 8) : sProp 𝕄 :=
  iprop(anySlot (c, r, 1, p) ∗ (anySlot (c, r, 0, p) ∗ sendG 0 c r p) ∗ rest0 c r p)
def barG : sProp 𝕄 :=
  iprop(dutyTok ER (barC (upD 0 c)) 0 0 ∗ dutyTok ER (barC (upD 1 c)) 0 1 ∗ cred (tallyAt (barC c) 1 2))
def posG : sProp 𝕄 :=
  iprop(atPos ER (barC c) 0 ∅ 0 ∗ atPos ER (crC 0 c) 0 ∅ 0 ∗ atPos ER (crC 1 c) 0 ∅ 0)

theorem crSt_start (r : Fin 2) : (atPos ER (crC r c) 0 ∅ 0 : sProp 𝕄) ⊢ iprop(facts (F := F) r c 0 ∗ crSt c r 0) := by
  unfold crSt
  iintro H
  isplitr
  · iapply (facts_zero (F := F) r c); iempintro
  iexists ∅
  isplitr; · ipureintro; exact ⟨Finset.empty_subset _, by decide⟩
  isplitl [H]; · iexact H
  rw [bigSep_empty]; iempintro

theorem rings_start : iprop((atPos ER (crC 0 c) 0 ∅ 0 : sProp 𝕄) ∗ atPos ER (crC 1 c) 0 ∅ 0)
    ⊢ allR (fun r j => iprop(facts (F := F) r c (8 * (0 : Fin 2).val + j) ∗ crSt c r (8 * (0 : Fin 2).val + j))) 0 := by
  unfold allR
  rw [bigSep_fin_two]
  show iprop(_ ∗ _) ⊢ iprop((facts (F := F) 0 c 0 ∗ crSt c 0 0) ∗ (facts (F := F) 1 c 0 ∗ crSt c 1 0))
  iintro ⟨H0, H1⟩
  isplitl [H0]
  · iapply (crSt_start (F := F) c 0) $$ H0
  iapply (crSt_start (F := F) c 1) $$ H1

theorem rings_next : allR (fun r j => iprop(facts (F := F) r c (8 * (0 : Fin 2).val + j) ∗ crSt c r (8 * (0 : Fin 2).val + j))) 16
    = allR (fun r j => iprop(facts (F := F) r c (8 * (1 : Fin 2).val + j) ∗ crSt c r (8 * (1 : Fin 2).val + j))) 0 := by
  unfold allR
  rw [bigSep_fin_two, bigSep_fin_two]
  rfl

theorem rings_end : allR (fun r j => iprop(facts (F := F) r c (8 * (1 : Fin 2).val + j) ∗ crSt c r (8 * (1 : Fin 2).val + j))) 16
    ⊢ iprop(crSt (F := F) c 0 16 ∗ crSt c 1 16) := by
  unfold allR
  rw [bigSep_fin_two]
  show iprop((facts (F := F) 0 c 16 ∗ crSt c 0 16) ∗ (facts (F := F) 1 c 16 ∗ crSt c 1 16)) ⊢ iprop(_ ∗ _)
  iintro ⟨⟨-, H0⟩, -, H1⟩
  isplitl [H0]
  · iexact H0
  iexact H1

/-- The own semaphores at rest, by ring and piece. -/
def semsZ : sProp 𝕄 := iprop(allP (xferZ c) ∗ (lcZ c ∗ (semVal (crC 0 c) 0 ∗ semVal (crC 1 c) 0)))

theorem ps8_val : ∀ i (hi : i < ps8.length), (ps8[i]).val = 0 + i := by decide

theorem wp_body (Q : PUnit → sProp 𝕄) :
    iprop(recs m κ σ ∗ bufs m c ∗ s1Pts m c ∗ s2Pts m c ∗ owesN c 0 ∗ barG c ∗ posG c ∗ allP (start c))
      ⊢ iprop(((bufs m c ∗ s1Pts m c ∗ s2Pts m c ∗ owesN c 82 ∗ semVal (barC c) 0 ∗ allP (xferZ c) ∗ (semVal (crC 0 c) 0 ∗ semVal (crC 1 c) 0)
            ∗ allP (fun r p => outIs c r p (outP m r c p))) -∗ Q ⟨⟩)
        -∗ WP c (cc0_body (F := F) xM (Memref.isWhole_whole _) wM (Memref.isWhole_whole _) s1M (Memref.isWhole_whole _) s2M (Memref.isWhole_whole _)
            oM (Memref.isWhole_whole _) (Memref.whole main_v1_1) (Memref.isWhole_whole _) (Memref.whole main_v1_2) (Memref.isWhole_whole _)
            stM (Memref.isWhole_whole _) acM (Memref.isWhole_whole _) obM (Memref.isWhole_whole _)
            cc0_scratch3 cc0_scratch4 cc0_scratch5 cc0_scratch6 cc0_scratch7 cc0_scratch8 cc0_scratch9) Q) := by
  rw [body_eq]
  simp only [Prog.lift, Prog.bind_op, Prog.bind_ret, wp_deviceId]
  unfold barG posG
  have hst : allP (start (F := F) c) = iprop(allP (fun r p => anySlot (c, r, 1, p))
      ∗ ((allP (fun r p => anySlot (c, r, 0, p)) ∗ allP (fun r p => sendG 0 c r p)) ∗ allP (rest0 c))) := by
    rw [← allP_sep, ← allP_sep, ← allP_sep]; rfl
  rw [hst, allP_rings (fun r p => anySlot (c, r, 1, p))]
  iintro ⟨#Hr, Hb, Hs1, Hs2, HO, ⟨Ht0, Ht1, HcB⟩, ⟨HaB, HaC0, HaC1⟩, ⟨Hp0, Hp1⟩, ⟨Hs0, Hg⟩, Hrest⟩ Hk
  iapply (wp_barSignal m κ σ c 0 0 1 rem_bar0) $$ [HO Ht0 Hp0]
  · isplitr; · iexact Hr
    isplitl [HO]; · iexact HO
    isplitl [Ht0]; · iexact Ht0
    unfold barPay; iexact Hp0
  iintro HO
  iapply (wp_barSignal m κ σ c 1 1 2 rem_bar1) $$ [HO Ht1 Hp1]
  · isplitr; · iexact Hr
    isplitl [HO]; · iexact HO
    isplitl [Ht1]; · iexact Ht1
    unfold barPay; iexact Hp1
  iintro HO
  iapply (wp_barWait m κ σ c) $$ [HO HcB HaB]
  · isplitr; · iexact Hr
    isplitl [HO]; · iexact HO
    isplitl [HcB]; · iexact HcB
    iexact HaB
  iintro ⟨HO, HaB, Hp⟩
  have hpre : iprop(allP (fun r p => anySlot (F := F) (c, r, 0, p)) ∗ (allP (fun r p => anySlot (F := F) (dnD r c, r, 1, p)) ∗ allP (fun r p => sendG (F := F) 0 c r p)))
      ⊢ mixP (initPre (F := F) c) (sdc 0 c) 0 := by
    rw [mixP_zero, ← allP_sep, ← allP_sep]; exact Entails.refl _
  ihave Hm := hpre $$ [Hs0 Hp Hg]
  · isplitl [Hs0]; · iexact Hs0
    isplitl [Hp]; · iexact Hp
    iexact Hg
  iapply (wp_pieces c (initI m κ σ c) (fun r p => init xM wM (cmM r) (cmM_whole r) acM acM_whole (sdA r) (rvA r) lcS (xo r 0 c) (xo_inb r 0 c) (dnD r c) r p)
    (initI_step m κ σ c) _ _ ps8 0 ps8_val) $$ [Hb HO Hm]
  · unfold initI
    isplitr; · iexact Hr
    isplitl [Hb]; · iexact Hb
    isplitl [HO]; · iexact HO
    iexact Hm
  unfold initI
  iintro ⟨-, Hb, HO, Hm⟩
  iapply (wp_word c s1M (s1stg m c)) $$ [Hs1]
  · unfold s1Pts; iexact Hs1
  iintro Hs1
  iapply (wp_word c s2M (s2stg m c)) $$ [Hs2]
  · unfold s2Pts; iexact Hs2
  iintro Hs2
  ihave Hm := (Entails.of_eq (mixP_end (initPre (F := F) c) (sdc 0 c))) $$ Hm
  ihave Hm := (to_step0 m κ σ c) $$ [Hm Hrest]
  · isplitr; · iexact Hr
    isplitl [Hm]; · iexact Hm
    iexact Hrest
  icases Hm with ⟨Hm, Hrest⟩
  ihave Hc := (rings_start (F := F) c) $$ [HaC0 HaC1]
  · isplitl [HaC0]; · iexact HaC0
    iexact HaC1
  iapply (wp_pieces c (stepI m κ σ c 0) (fun r p => step xM wM (cmM r) (cmM_whole r) stM stM_whole acM acM_whole (sdA r) (rvA r) lcS (crS r)
            (xo r ((0 : Fin 2).val + 1) c) (xo_inb r ((0 : Fin 2).val + 1) c) (dnD r c) (upD r c) r (sl ((0 : Fin 2).val + 1)) 0 p)
    (stepI_step m κ σ c 0) _ _ ps8 0 ps8_val) $$ [Hb HO Hm Hc]
  · unfold stepI
    isplitr; · iexact Hr
    isplitl [Hb]; · iexact Hb
    isplitl [HO]; · iexact HO
    isplitl [Hc]; · iexact Hc
    rw [mixP_zero]; iexact Hm
  unfold stepI
  iintro ⟨-, Hb, HO, Hc, Hm⟩
  ihave Hm := (Entails.of_eq (mixP_end (stepPre (F := F) 0 c) (stepPost 0 c))) $$ Hm
  ihave Hm := (to_step1 m κ σ c) $$ [Hm Hrest]
  · isplitr; · iexact Hr
    isplitl [Hm]; · iexact Hm
    iexact Hrest
  icases Hm with ⟨Hm, Hrest⟩
  ihave Hc := (Entails.of_eq (rings_next (F := F) c)) $$ Hc
  iapply (wp_pieces c (stepI m κ σ c 1) (fun r p => step xM wM (cmM r) (cmM_whole r) stM stM_whole acM acM_whole (sdA r) (rvA r) lcS (crS r)
            (xo r ((1 : Fin 2).val + 1) c) (xo_inb r ((1 : Fin 2).val + 1) c) (dnD r c) (upD r c) r (sl ((1 : Fin 2).val + 1)) 1 p)
    (stepI_step m κ σ c 1) _ _ ps8 0 ps8_val) $$ [Hb HO Hm Hc]
  · unfold stepI
    isplitr; · iexact Hr
    isplitl [Hb]; · iexact Hb
    isplitl [HO]; · iexact HO
    isplitl [Hc]; · iexact Hc
    rw [mixP_zero]; iexact Hm
  unfold stepI
  iintro ⟨-, Hb, HO, Hc, Hm⟩
  ihave Hm := (Entails.of_eq (mixP_end (stepPre (F := F) 1 c) (stepPost 1 c))) $$ Hm
  ihave Hm := (to_fin m κ σ c) $$ [Hm Hrest]
  · isplitr; · iexact Hr
    isplitl [Hm]; · iexact Hm
    iexact Hrest
  icases Hm with ⟨Hm, Hrest⟩
  ihave Hc := (rings_end (F := F) c) $$ Hc
  icases Hc with ⟨Hc0, Hc1⟩
  iapply (wp_pieces c (finI m κ σ c) (fun r p => fin xM wM oM (cmM r) (cmM_whole r) stM stM_whole obM obM_whole (sdA r) (rvA r) lcS
            (xo r 3 c) (xo_inb r 3 c) r p (scl m c))
    (finI_step m κ σ c) _ _ ps8 0 ps8_val) $$ [Hb HO Hm]
  · unfold finI
    isplitr; · iexact Hr
    isplitl [Hb]; · iexact Hb
    isplitl [HO]; · iexact HO
    rw [mixP_zero]; iexact Hm
  unfold finI
  iintro ⟨-, Hb, HO, Hm⟩
  ihave Hm := (Entails.of_eq (mixP_end (finPre (F := F) c) (finPost m c))) $$ Hm
  unfold WP
  rw [Prog.pure_eq_ret, wp_ret]
  imod (close_all m κ σ c) $$ [Hm Hrest] with ⟨Hz, Hout⟩
  · isplitr; · iexact Hr
    isplitl [Hm]; · iexact Hm
    iexact Hrest
  imod (close_bar m κ σ c) $$ [HaB] with HzB
  · isplitr; · iexact Hr
    iexact HaB
  imod (close_cr m κ σ c 0) $$ [Hc0] with HzC0
  · isplitr; · iexact Hr
    iexact Hc0
  imod (close_cr m κ σ c 1) $$ [Hc1] with HzC1
  · isplitr; · iexact Hr
    iexact Hc1
  imodintro
  iapply Hk
  isplitl [Hb]; · iexact Hb
  isplitl [Hs1]; · unfold s1Pts; iexact Hs1
  isplitl [Hs2]; · unfold s2Pts; iexact Hs2
  isplitl [HO]; · iexact HO
  isplitl [HzB]; · iexact HzB
  isplitl [Hz]; · iexact Hz
  isplitl [HzC0 HzC1]
  · isplitl [HzC0] <;> iassumption
  iexact Hout

end Cert.KernelIdeal.Own
-- ==== Proof.Deal.lean ====
/- What the launch deals the devices: the cells and their invariants, the duty tokens by the device that pays them,
   the slots' invariants, the credits, and the exchange buffers and the result cut into slots and pieces. -/
module

public import proofs.«01_k».proof.Proof.Body
public import Idealize.ShloMosaic.Lib.Pipeline.SiteBlocks

@[expose] public section

set_option maxRecDepth 10000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig ℕ (Elt F) ℕ UU ℕ
variable (m : (ℓ : Loc nD τ sig) → Buf (Elt F) ℓ)

/-! ## Cells -/

theorem csem_injective : Function.Injective csem := by
  rintro (⟨b, r, q, p⟩ | k) (⟨b', r', q', p'⟩ | k') h
  · have h' : dsem b r q p = dsem b' r' q' p' := by injection h
    obtain ⟨h1, h2, h3, h4⟩ := d_of b r q p
    obtain ⟨g1, g2, g3, g4⟩ := d_of b' r' q' p'
    rw [h'] at h1 h2 h3 h4
    rw [← h1, ← h2, ← h3, ← h4, g1, g2, g3, g4]
  · fin_cases k' <;> cases h
  · fin_cases k <;> cases h
  · fin_cases k <;> fin_cases k' <;> first | rfl | exact absurd h (by decide)

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

def cells : Finset (GSem nD τ sig) := Finset.univ.map ⟨kcell, kcell_injective⟩

theorem cells_deal (Φ : GSem nD τ sig → sProp 𝕄) :
    bigSep cells Φ = bigSep Finset.univ fun x : Dev nD × Ck => Φ (kcell x) := by
  unfold cells; rw [bigSep_map]; rfl

/-! ## Duty tokens, by the device that pays -/

/-- What a device pays: a barrier signal, a credit of a step, the two ends of a stage's send. -/
abbrev Tk := Fin 2 ⊕ ((Fin 2 × Fin 8) × (Fin 2 ⊕ (Fin 3 × Fin 2)))

def tokOf (x : Dev nD × Tk) : GSem nD τ sig × ℕ × ℕ := match x.2 with
  | .inl r => (barC (upD r x.1), 0, r.val)
  | .inr ((r, p), .inl s) => (crC r (upD r x.1), 0, 8 * s.val + p.val)
  | .inr ((r, p), .inr (t, b)) =>
    if b = 0 then (sdG r (sl t.val) p x.1, t.val / 2, 0) else (rvG r (sl (t.val + 1)) p (dnD r x.1), t.val / 2, 0)

/-- The payer and the payment of a token. -/
def tokInv (y : GSem nD τ sig × ℕ × ℕ) : Dev nD × Tk := match y.1.2 with
  | .reg s =>
    if s = barS then (if y.2.2 = 0 then (dnD 0 y.1.1.1, .inl 0) else (dnD 1 y.1.1.1, .inl 1))
    else (dnD (if s = crS 0 then 0 else 1) y.1.1.1,
      .inr ((if s = crS 0 then 0 else 1, ⟨y.2.2 % 8, Nat.mod_lt _ (by decide)⟩), .inl ⟨y.2.2 / 8 % 2, Nat.mod_lt _ (by decide)⟩))
  | .dma s =>
    if dKind s = 0 then (y.1.1.1, .inr ((dRing s, dPiece s), .inr (⟨(2 * y.2.1 + (dHalf s).val) % 3, Nat.mod_lt _ (by decide)⟩, 0)))
    else (upD (dRing s) y.1.1.1, .inr ((dRing s, dPiece s), .inr (⟨(2 * y.2.1 + (1 - (dHalf s).val)) % 3, Nat.mod_lt _ (by decide)⟩, 1)))

theorem tokInv_tokOf : Function.LeftInverse tokInv tokOf := by
  rintro ⟨c, r | ⟨⟨r, p⟩, s | ⟨t, b⟩⟩⟩
  · match r with
    | 0 => show (dnD 0 (upD 0 c), _) = _; rw [dn_up]
    | 1 => show (dnD 1 (upD 1 c), _) = _; rw [dn_up]
  · simp only [tokOf, tokInv]
    rw [if_neg (crS_ne r), crS_ring, dn_up]
    have hp := p.isLt; have hs := s.isLt
    have e1 : (8 * s.val + p.val) % 8 = p.val := by omega
    have e2 : (8 * s.val + p.val) / 8 % 2 = s.val := by omega
    simp only [e1, e2]
  · have ht := t.isLt
    match b with
    | 0 =>
      obtain ⟨h1, h2, h3, h4⟩ := d_of 0 r (sl t.val) p
      simp only [tokOf, tokInv, if_true, h1, h2, h3, h4]
      have e : (2 * (t.val / 2) + (sl t.val).val) % 3 = t.val := by unfold sl; show (2 * (t.val / 2) + t.val % 2) % 3 = t.val; omega
      simp only [e]
    | 1 =>
      obtain ⟨h1, h2, h3, h4⟩ := d_of 1 r (sl (t.val + 1)) p
      simp only [tokOf, tokInv, show ((1 : Fin 2) = 0) = False from eq_false (by decide), if_false, h1, h2, h3, h4, up_dn]
      have e : (2 * (t.val / 2) + (1 - (sl (t.val + 1)).val)) % 3 = t.val := by clear h1 h2 h3 h4; revert t; decide
      simp only [e]

def toks : Finset (GSem nD τ sig × ℕ × ℕ) := Finset.univ.map ⟨tokOf, tokInv_tokOf.injective⟩

/-- The tokens of what device `c` pays. -/
def toksG (c : Dev nD) : sProp 𝕄 :=
  iprop((dutyTok ER (barC (upD 0 c)) 0 0 ∗ dutyTok ER (barC (upD 1 c)) 0 1)
    ∗ allP fun r p => iprop((dutyTok ER (crC r (upD r c)) 0 (8 * (0 : Fin 2).val + p.val) ∗ dutyTok ER (crC r (upD r c)) 0 (8 * (1 : Fin 2).val + p.val))
      ∗ (sendG 0 c r p ∗ (sendG 1 c r p ∗ sendG 2 c r p))))

theorem bigSep_three (Φ : Fin 3 → sProp 𝕄) : bigSep Finset.univ Φ = iprop(Φ 0 ∗ (Φ 1 ∗ Φ 2)) := by
  rw [show (Finset.univ : Finset (Fin 3)) = {0, 1, 2} by decide, bigSep_insert (by decide), bigSep_insert (by decide), bigSep_singleton]
  rfl

theorem toks_deal : bigSep toks (fun x => (dutyTok ER x.1 x.2.1 x.2.2 : sProp 𝕄)) = bigSep Finset.univ fun c : Dev nD => toksG c := by
  unfold toks; rw [bigSep_map, bigSep_univ_prod]
  refine bigSep_congr fun c _ => ?_
  rw [bigSep_univ_sum, bigSep_fin_two, bigSep_univ_prod]
  unfold toksG allP
  refine congrArg₂ BI.sep rfl (bigSep_congr fun x _ => ?_)
  rw [bigSep_univ_sum, bigSep_fin_two, bigSep_univ_prod, bigSep_three, bigSep_fin_two, bigSep_fin_two, bigSep_fin_two]
  rfl

/-! ## Slots, by the device that reads and by the device that writes -/

def keyEquiv : Dev nD × ((Fin 2 × Fin 8) × Fin 2) ≃ Key where
  toFun x := (x.1, x.2.1.1, x.2.2, x.2.1.2)
  invFun y := (y.1, ((y.2.1, y.2.2.2), y.2.2.1))
  left_inv _ := rfl
  right_inv _ := rfl

def keyShift : Dev nD × ((Fin 2 × Fin 8) × Fin 2) ≃ Key where
  toFun x := (dnD x.2.1.1 x.1, x.2.1.1, x.2.2, x.2.1.2)
  invFun y := (upD y.2.1 y.1, ((y.2.1, y.2.2.2), y.2.2.1))
  left_inv x := by show (upD _ (dnD _ _), _) = _; rw [up_dn]
  right_inv x := by show (dnD _ (upD _ _), _) = _; rw [dn_up]

theorem keys_split (Φ : Key → sProp 𝕄) :
    bigSep Finset.univ Φ = bigSep Finset.univ fun c : Dev nD => allP fun r p => iprop(Φ (c, r, 0, p) ∗ Φ (c, r, 1, p)) := by
  rw [bigSep_univ_equiv keyEquiv, bigSep_univ_prod]
  refine bigSep_congr fun c _ => ?_
  rw [bigSep_univ_prod]; unfold allP
  refine bigSep_congr fun x _ => ?_
  rw [bigSep_fin_two]; rfl

theorem keys_shift (Φ : Key → sProp 𝕄) :
    bigSep Finset.univ Φ = bigSep Finset.univ fun c : Dev nD => allP fun r p => iprop(Φ (dnD r c, r, 0, p) ∗ Φ (dnD r c, r, 1, p)) := by
  rw [bigSep_univ_equiv keyShift, bigSep_univ_prod]
  refine bigSep_congr fun c _ => ?_
  rw [bigSep_univ_prod]; unfold allP
  refine bigSep_congr fun x _ => ?_
  rw [bigSep_fin_two]; rfl

/-! ## The deal -/

/-- The kernel's own semaphores: the cells but for the barrier, and the local copies' one. -/
def osem : Ck → SemLoc sig
  | .inl (b, r, q, p) => .dma (dsem b r q p)
  | .inr 0 => .dma lcS
  | .inr 1 => .reg (crS 0)
  | .inr 2 => .reg (crS 1)

set_option maxRecDepth 100000 in
theorem ownSemFacts : Pipeline.OwnSemFacts cfg0.spec osem := by decide +kernel

theorem ownSems0_eq (c : Dev nD) : (Pipeline.ownSems0 (Ix := ℕ) (Name := ℕ) (U := UU) (Lvl := ℕ) (Val := Elt F) (τ := τ) osem c : sProp 𝕄)
    = iprop(allP (xferZ c) ∗ (lcZ c ∗ (semVal (crC 0 c) 0 ∗ semVal (crC 1 c) 0))) := by
  unfold Pipeline.ownSems0
  rw [cells_split]; rfl
theorem unscopedSems0_eq (c : Dev nD) : (unscopedSems0 c : sProp 𝕄) = semVal (barC c) 0 := by
  unfold unscopedSems0; rw [bigSep_eq_bigSepL_of_eq [SemLoc.reg barS] (by decide) (by decide)]; rfl
theorem cellsZ_eq (c : Dev nD) : bigSep Finset.univ (fun k : Ck => (semVal (kcell (c, k)) 0 : sProp 𝕄))
    = iprop(allP (xferZ c) ∗ (semVal (barC c) 0 ∗ (semVal (crC 0 c) 0 ∗ semVal (crC 1 c) 0))) := by
  rw [cells_split]; rfl

/-- The device's own part of what is dealt. -/
def lin (c : Dev nD) : sProp 𝕄 :=
  iprop(lcZ c ∗ bigSep Finset.univ (fun k : Ck => atPos ER (kcell (c, k)) 0 ∅ 0) ∗ toksG c
    ∗ (allP fun r p => iprop(Release.readerAt ES (c, r, 0, p) 0 ∗ Release.readerAt ES (c, r, 1, p) 0))
    ∗ (allP fun r p => iprop(Release.writeTok ES (dnD r c, r, 0, p) 1 ∗ Release.writeTok ES (dnD r c, r, 1, p) 1)))

/-- What all devices know, but for the order of the waits. -/
def recs' (κ : Dev nD × Ck → ℕ) (σ : Key → ℕ) : sProp 𝕄 :=
  iprop(bigSep Finset.univ (fun x : Dev nD × Ck => cellInv ER (Rd m) (κ x) (kcell x))
    ∗ bigSep Finset.univ (fun x : Dev nD × Ck => reached ER (kcell x) 0)
    ∗ bigSep Finset.univ (fun k : Key => Release.slotInv ES (σ k) k (anySlot (F := F) k)))
instance recs'_persistent (κ : Dev nD × Ck → ℕ) (σ : Key → ℕ) : BI.Persistent (recs' (F := F) m κ σ) := by
  unfold recs'; infer_instance

def G' (c : Dev nD) : sProp 𝕄 := iprop(∃ κ σ, recs' m κ σ ∗ lin c)

/-- The exchange's share of the launch element. -/
def uX : UB × (US × Counters) := (initOf cells toks, (Release.initSlots (Finset.univ : Finset Key) 1, (1 : Counters)))
def G (c : Dev nD) : sProp 𝕄 := SiteBlocks.onDev (0 : Dev nD) (BI.own ((embR (A := UR sig nD τ) : Emb (UB × (US × Counters)) 𝕄) uX)) c

theorem split_uX : (BI.own ((embR (A := UR sig nD τ) : Emb (UB × (US × Counters)) 𝕄) uX) : sProp 𝕄)
    ⊢ iprop(BI.own ((ER : Emb UB 𝕄) (initOf cells toks)) ∗ BI.own ((ES : Emb US 𝕄) (Release.initSlots (Finset.univ : Finset Key) 1))) := by
  unfold uX
  refine (own_pair_emb _ _ _).trans (sep_mono_right ?_)
  refine (own_pair_emb _ _ _).trans ?_
  iintro ⟨H, -⟩; iexact H

theorem inv_alloc_all :
    iprop(bigSep Finset.univ (fun x : Dev nD × Ck => (semVal (kcell x) 0 : sProp 𝕄)) ∗ bigSep Finset.univ (fun x : Dev nD × Ck => roundState ER (Rd m) (kcell x) 0))
      ⊢ |={Set.univ}=> iprop(∃ κ : Dev nD × Ck → ℕ, bigSep Finset.univ (fun x : Dev nD × Ck => cellInv ER (Rd m) (κ x) (kcell x))) := by
  rw [← bigSep_sep']
  have h : bigSep Finset.univ (fun x : Dev nD × Ck => iprop(semVal (kcell x) 0 ∗ roundState ER (Rd m) (kcell x) 0))
      ⊢ (|={Set.univ}=> bigSep Finset.univ fun x : Dev nD × Ck => iprop(∃ κ : ℕ, cellInv ER (Rd m) κ (kcell x)) : sProp 𝕄) :=
    (bigSep_mono fun x _ => (Rounds.body_intro ER (Rd m) (kcell x)).trans inv_alloc).trans (bigSep_fupd _ _)
  iintro H
  ihave H := h $$ H
  imod H with H
  imodintro
  iapply (BI.bigSep_exists_pi Finset.univ (fun (x : Dev nD × Ck) (κ : ℕ) => (cellInv ER (Rd m) κ (kcell x) : sProp 𝕄))); iexact H

theorem sems0_deal : (bigSep Finset.univ fun c : Dev nD => iprop(Pipeline.ownSems0 (Ix := ℕ) (Name := ℕ) (U := UU) (Lvl := ℕ) (Val := Elt F) (τ := τ) osem c ∗ unscopedSems0 c ∗ G c) : sProp 𝕄)
    ⊢ iprop(bigSep Finset.univ (fun x : Dev nD × Ck => (semVal (kcell x) 0 : sProp 𝕄)) ∗ bigSep Finset.univ (fun c : Dev nD => lcZ c)
        ∗ BI.own ((embR (A := UR sig nD τ) : Emb (UB × (US × Counters)) 𝕄) uX)) := by
  rw [← SiteBlocks.bigSep_onDev (0 : Dev nD) (BI.own ((embR (A := UR sig nD τ) : Emb (UB × (US × Counters)) 𝕄) uX)), bigSep_univ_prod,
    ← bigSep_sep', ← bigSep_sep']
  refine bigSep_mono fun c _ => ?_
  rw [ownSems0_eq, unscopedSems0_eq, cellsZ_eq]
  unfold G
  show iprop((allP (xferZ c) ∗ lcZ c ∗ semVal (crC 0 c) 0 ∗ semVal (crC 1 c) 0) ∗ semVal (barC c) 0
      ∗ SiteBlocks.onDev 0 (BI.own ((embR (A := UR sig nD τ) : Emb (UB × (US × Counters)) 𝕄) uX)) c) ⊢ iprop(_ ∗ _)
  iintro ⟨⟨HX, HL, H1, H2⟩, HB, HG⟩
  isplitl [HX H1 H2 HB]
  · isplitl [HX]; · iexact HX
    isplitl [HB]; · iexact HB
    isplitl [H1] <;> iassumption
  isplitl [HL]; · iexact HL
  iexact HG

theorem glob : (bigSep Finset.univ fun c : Dev nD => iprop(Pipeline.ownSems0 (Ix := ℕ) (Name := ℕ) (U := UU) (Lvl := ℕ) (Val := Elt F) (τ := τ) osem c ∗ unscopedSems0 c ∗ G c) : sProp 𝕄)
    ⊢ |={Set.univ}=> bigSep Finset.univ (G' m) := by
  refine sems0_deal.trans ?_
  iintro ⟨Hv, Hl, HX⟩
  ihave H := split_uX $$ HX
  icases H with ⟨HE, HS⟩
  imod (Rounds.fund ER (Rd m) cells toks) $$ HE with ⟨Hst, Hr, Hat, Htok⟩
  imod (Release.slots_init ES (Finset.univ : Finset Key) 1 (fun k => anySlot (F := F) k) (avoid := ∅)) $$ HS with ⟨%σ, %hσ, #Hsl, Hrd, Hwr⟩
  ihave Hst := (Entails.of_eq (cells_deal fun g => roundState ER (Rd m) g 0)) $$ Hst
  ihave #Hr := (Entails.of_eq (cells_deal fun g => (reached ER g 0 : sProp 𝕄))) $$ Hr
  ihave Hat := (Entails.of_eq ((cells_deal fun g => (atPos ER g 0 ∅ 0 : sProp 𝕄)).trans (bigSep_univ_prod _))) $$ Hat
  ihave Htok := (Entails.of_eq toks_deal) $$ Htok
  ihave Hrd := (Entails.of_eq (keys_split fun k => (Release.readerAt ES k 0 : sProp 𝕄))) $$ Hrd
  ihave Hwr := (Entails.of_eq (show bigSep ((Finset.univ : Finset Key) ×ˢ Finset.range 1) (fun x => (Release.writeTok ES x.1 (x.2 + 1) : sProp 𝕄))
      = bigSep Finset.univ fun c : Dev nD => allP fun r p => iprop(Release.writeTok ES (dnD r c, r, 0, p) 1 ∗ Release.writeTok ES (dnD r c, r, 1, p) 1) from by
    rw [Finset.range_one, Finset.product_singleton, bigSep_map]; exact keys_shift fun k => (Release.writeTok ES k 1 : sProp 𝕄))) $$ Hwr
  imod (inv_alloc_all m) $$ [Hv Hst] with ⟨%κ, #HI⟩
  · isplitl [Hv] <;> iassumption
  imodintro
  iapply (bigSep_with_persistent (R := recs' m κ σ) (Φ := lin) (S := Finset.univ) fun c _ => by
    unfold G'; iintro ⟨HR, HL⟩; iexists κ; iexists σ; isplitl [HR] <;> iassumption)
  isplitr
  · unfold recs'
    isplitr; · iexact HI
    isplitr; · iexact Hr
    iexact Hsl
  unfold lin
  simp only [bigSep_sep']
  isplitl [Hl]; · iexact Hl
  isplitl [Hat]; · iexact Hat
  isplitl [Htok]; · iexact Htok
  isplitl [Hrd]; · iexact Hrd
  iexact Hwr

/-! ## Credits -/

/-- What a device is owed for an event. -/
def due (c : Dev nD) (e : Ev) : sProp 𝕄 := match e with
  | .bar _ => cred (tallyAt (barC c) 1 1)
  | .snd t r p => recvG t c r p
  | .crd s r p => cred (tallyAt (crC r c) (elv (.crd s r p)) 1)

theorem due_of (c : Dev nD) (e : Ev) :
    (Pipeline.launchCred (fun d => tallyAt (ecell e d) (elv e) (eamt e)) c : sProp 𝕄) ⊢ due c e := by
  match e with
  | .bar r => exact Pipeline.launchCred_tallyAt (.reg barS) (upD r) (dnD r) (up_dn r) (dn_up r) 1 1 c
  | .snd t r p => exact Pipeline.launchCred_tallyAt (.dma (dsem 1 r (sl (t + 1)) p)) (dnD r) (upD r) (dn_up r) (up_dn r) (100 * t + 10) N c
  | .crd s r p => exact Pipeline.launchCred_tallyAt (.reg (crS r)) (upD r) (dnD r) (up_dn r) (dn_up r) (elv (.crd s r p)) 1 c

theorem dues_of (c : Dev nD) (es : List Ev) :
    (Pipeline.launchCred (owe es) c : sProp 𝕄) ⊢ bigSep es.toFinset (due (F := F) c) := by
  induction es with
  | nil => rw [List.toFinset_nil, bigSep_empty]; iintro -; iempintro
  | cons e es ih =>
    rw [show owe (e :: es) = fun d => owe es d + tallyAt (ecell e d) (elv e) (eamt e) from rfl, Pipeline.launchCred_add, List.toFinset_cons]
    by_cases he : e ∈ es.toFinset
    · rw [Finset.insert_eq_of_mem he]
      iintro ⟨H, -⟩; iapply ih; iexact H
    · rw [BI.bigSep_insert he]
      show iprop(_ ∗ _) ⊢ iprop(due c e ∗ bigSep es.toFinset (due (F := F) c))
      iintro ⟨H, H'⟩
      isplitl [H']; · iapply (due_of (F := F) c e); iexact H'
      iapply ih; iexact H

abbrev Dk := Fin 2 ⊕ ((Fin 2 × Fin 8) × (Fin 3 ⊕ Fin 2))
def evOf : Dk → Ev
  | .inl r => .bar r
  | .inr ((r, p), .inl t) => .snd t.val r p
  | .inr ((r, p), .inr s) => .crd s.val r p
theorem evOf_injective : Function.Injective evOf := by
  rintro (r | ⟨⟨r, p⟩, t | s⟩) (r' | ⟨⟨r', p'⟩, t' | s'⟩) h <;>
    simp only [evOf, Ev.bar.injEq, Ev.snd.injEq, Ev.crd.injEq, reduceCtorEq, Fin.val_inj] at h
  · rw [h]
  · obtain ⟨rfl, rfl, rfl⟩ := h; rfl
  · obtain ⟨rfl, rfl, rfl⟩ := h; rfl
theorem evOf_mem : ∀ x : Dk, evOf x ∈ rem 0 := by decide +kernel

theorem dues_split (c : Dev nD) :
    (Pipeline.launchCred (owe (rem 0)) c : sProp 𝕄)
      ⊢ iprop(cred (tallyAt (barC c) 1 2)
        ∗ allP fun r p => iprop((recvG 0 c r p ∗ recvG 1 c r p ∗ recvG 2 c r p)
          ∗ (cred (tallyAt (crC r c) (elv (.crd (0 : Fin 2).val r p)) 1) ∗ cred (tallyAt (crC r c) (elv (.crd (1 : Fin 2).val r p)) 1)))) := by
  have e : bigSep ((Finset.univ : Finset Dk).map ⟨evOf, evOf_injective⟩) (due (F := F) c)
      = iprop((cred (tallyAt (barC c) 1 1) ∗ cred (tallyAt (barC c) 1 1))
        ∗ allP fun r p => iprop((recvG 0 c r p ∗ recvG 1 c r p ∗ recvG 2 c r p)
          ∗ (cred (tallyAt (crC r c) (elv (.crd (0 : Fin 2).val r p)) 1) ∗ cred (tallyAt (crC r c) (elv (.crd (1 : Fin 2).val r p)) 1)))) := by
    rw [bigSep_map, bigSep_univ_sum, bigSep_fin_two, bigSep_univ_prod]
    unfold allP
    refine congrArg₂ BI.sep rfl (bigSep_congr fun x _ => ?_)
    rw [bigSep_univ_sum, bigSep_fin_two, bigSep_three]; rfl
  have h2 : iprop(cred (tallyAt (barC c) 1 1) ∗ cred (tallyAt (barC c) 1 1)) ⊢ (cred (tallyAt (barC c) 1 2) : sProp 𝕄) := by
    rw [show (tallyAt (barC c) 1 2 : CellTallies nD τ sig ℕ) = tallyAt (barC c) 1 1 + tallyAt (barC c) 1 1 from (tallyAt_add (barC c) 1 1 1).symm]
    exact (cred_add _ _).2
  have h1 : bigSep (rem 0).toFinset (due (F := F) c) ⊢ bigSep ((Finset.univ : Finset Dk).map ⟨evOf, evOf_injective⟩) (due (F := F) c) :=
    bigSep_subset fun y hy => by
      obtain ⟨x, -, rfl⟩ := Finset.mem_map.mp hy
      exact List.mem_toFinset.mpr (evOf_mem x)
  iintro H
  ihave H := (dues_of c (rem 0)) $$ H
  ihave H := h1 $$ H
  ihave H := (Entails.of_eq e) $$ H
  icases H with ⟨H1, H2⟩
  isplitl [H1]; · iapply h2; iexact H1
  iexact H2

/-! ## The exchange buffers and the result, cut -/

/-- A buffer held whole is held by parts that do not meet. -/
theorem cut {ℓ : Loc nD τ sig} (K : Fin 2 × Fin 8 → Finset (Idx ℓ)) (h : ∀ t t', t ≠ t' → Disjoint (K t) (K t')) (f : Buf (Elt F) ℓ) :
    (ℓ ↦[Finset.univ]{fullShare} f : sProp 𝕄) ⊢ bigSep Finset.univ fun t => iprop(∃ f : Buf (Elt F) ℓ, ℓ ↦[K t]{fullShare} f) := by
  classical
  refine ((pointsTo_split_subset (Finset.subset_univ (Finset.univ.biUnion K))).1).trans ?_
  rw [pointsTo_biUnion Finset.univ K fun t _ t' _ => h t t']
  refine (show iprop(_ ∗ _) ⊢ _ from ?_ : iprop((bigSep Finset.univ fun t => ℓ ↦[K t]{fullShare} f) ∗ (ℓ ↦[Finset.univ \ Finset.univ.biUnion K]{fullShare} f))
    ⊢ (bigSep Finset.univ fun t => iprop(∃ f : Buf (Elt F) ℓ, ℓ ↦[K t]{fullShare} f) : sProp 𝕄))
  iintro ⟨H, -⟩
  iapply (show (bigSep Finset.univ fun t => (ℓ ↦[K t]{fullShare} f : sProp 𝕄)) ⊢ bigSep Finset.univ fun t => iprop(∃ f : Buf (Elt F) ℓ, ℓ ↦[K t]{fullShare} f) from
    bigSep_mono fun t _ => by
      show (ℓ ↦[K t]{fullShare} f : sProp 𝕄) ⊢ iprop(∃ f : Buf (Elt F) ℓ, ℓ ↦[K t]{fullShare} f)
      iintro H; iexists f; iexact H)
  iexact H

abbrev slotRect (q : Fin 2) (p : Fin 8) : Rect S2x8x1024x512 :=
  Rect.unit (s := S2x8x1024x512) ![q.val, p.val, 0, 0] S1x1x1024x512.size (inb_slot q p)
abbrev pieceRect (r : Fin 2) (p : Fin 8) : Rect S1024x8192 :=
  Rect.unit (s := S1024x8192) ![0, col r p] S1024x512.size (inb_col r p)

theorem slotRect_disjoint (t t' : Fin 2 × Fin 8) (h : t ≠ t') : Disjoint (slotRect t.1 t.2).set (slotRect t'.1 t'.2).set := by
  refine Finset.disjoint_left.mpr fun i hi hi' => h ?_
  rw [LoadRect.mem_set] at hi hi'
  obtain ⟨j0, hj0, e0⟩ := hi 0
  obtain ⟨j1, hj1, e1⟩ := hi 1
  obtain ⟨k0, hk0, g0⟩ := hi' 0
  obtain ⟨k1, hk1, g1⟩ := hi' 1
  change j0 < 1 at hj0; change j1 < 1 at hj1; change k0 < 1 at hk0; change k1 < 1 at hk1
  change (i 0 : ℕ) = t.1.val + 1 * j0 at e0; change (i 1 : ℕ) = t.2.val + 1 * j1 at e1
  change (i 0 : ℕ) = t'.1.val + 1 * k0 at g0; change (i 1 : ℕ) = t'.2.val + 1 * k1 at g1
  exact Prod.ext (Fin.ext (by omega)) (Fin.ext (by omega))

theorem col_val (r : Fin 2) (p : Fin 8) : col r p = 4096 * r.val + 512 * p.val := by revert r p; decide

theorem pieceRect_disjoint (t t' : Fin 2 × Fin 8) (h : t ≠ t') : Disjoint (pieceRect t.1 t.2).set (pieceRect t'.1 t'.2).set := by
  refine Finset.disjoint_left.mpr fun i hi hi' => h ?_
  rw [LoadRect.mem_set] at hi hi'
  obtain ⟨j, hj, e⟩ := hi 1
  obtain ⟨k, hk, g⟩ := hi' 1
  change j < 512 at hj; change k < 512 at hk
  change (i 1 : ℕ) = col t.1 t.2 + 1 * j at e; change (i 1 : ℕ) = col t'.1 t'.2 + 1 * k at g
  rw [col_val] at e g
  have h1 := t.2.isLt; have h2 := t'.2.isLt; have h3 := t.1.isLt; have h4 := t'.1.isLt
  exact Prod.ext (Fin.ext (by omega)) (Fin.ext (by omega))

theorem slt_set0 (q : Fin 2) (p : Fin 8) : (slt 0 q p).view.set = (slotRect q p).set :=
  (View.set_reshape _ _).trans (View.set_slice_whole main_v1_1 _)
theorem slt_set1 (q : Fin 2) (p : Fin 8) : (slt 1 q p).view.set = (slotRect q p).set :=
  (View.set_reshape _ _).trans (View.set_slice_whole main_v1_2 _)
theorem outV_set (r : Fin 2) (p : Fin 8) : (outV oM r p).view.set = (pieceRect r p).set := View.set_slice_whole main_v1_0 _

/-- The slots of a ring, the receive half of the first stage first. -/
def slots (c : Dev nD) (r : Fin 2) : sProp 𝕄 :=
  iprop(bigSep Finset.univ (fun p : Fin 8 => anySlot (F := F) (c, r, 0, p)) ∗ bigSep Finset.univ fun p : Fin 8 => anySlot (F := F) (c, r, 1, p))

theorem slots_cut0 (c : Dev nD) (f : Buf (Elt F) ((c : Thread nD τ).loc main_v1_1)) :
    (((c : Thread nD τ).loc main_v1_1) ↦{fullShare} f : sProp 𝕄) ⊢ slots c 0 := by
  refine (cut (ℓ := (c : Thread nD τ).loc main_v1_1) (fun t => (slt 0 t.1 t.2).view.set) (fun t t' h => by
    rw [slt_set0, slt_set0]; exact slotRect_disjoint t t' h) f).trans (Entails.of_eq ?_)
  rw [bigSep_univ_prod, bigSep_fin_two]; rfl
theorem slots_cut1 (c : Dev nD) (f : Buf (Elt F) ((c : Thread nD τ).loc main_v1_2)) :
    (((c : Thread nD τ).loc main_v1_2) ↦{fullShare} f : sProp 𝕄) ⊢ slots c 1 := by
  refine (cut (ℓ := (c : Thread nD τ).loc main_v1_2) (fun t => (slt 1 t.1 t.2).view.set) (fun t t' h => by
    rw [slt_set1, slt_set1]; exact slotRect_disjoint t t' h) f).trans (Entails.of_eq ?_)
  rw [bigSep_univ_prod, bigSep_fin_two]; rfl
theorem out_cut (c : Dev nD) (f : Buf (Elt F) ((c : Thread nD τ).loc main_v1_0)) :
    (((c : Thread nD τ).loc main_v1_0) ↦{fullShare} f : sProp 𝕄) ⊢ allP (outAny c) :=
  cut (ℓ := (c : Thread nD τ).loc main_v1_0) (fun t => (outV oM t.1 t.2).view.set) (fun t t' h => by
    rw [outV_set, outV_set]; exact pieceRect_disjoint t t' h) f
theorem slots_join (c : Dev nD) : iprop(slots (F := F) c 0 ∗ slots c 1)
    ⊢ allP fun r p => iprop(anySlot (F := F) (c, r, 0, p) ∗ anySlot (c, r, 1, p)) := by
  rw [allP_rings, bigSep_sep', bigSep_sep']; exact .rfl

end Cert.KernelIdeal.Own
-- ==== Proof.Launch.lean ====
/- The launch: the kernel's proof data for its single grid point, and its run from any memory. -/
module

public import proofs.«01_k».proof.Proof.Deal
public import proofs.«01_k».proof.Proof.Gen.KernelIdeal.Points
public import Idealize.ShloMosaic.Lib.Quiescent
public import Idealize.ShloMosaic.Lib.Pipeline.SiteBlocksRead

@[expose] public section

set_option maxRecDepth 10000

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]
local notation "𝕄" => MT nD τ sig ℕ (Elt F) ℕ UU ℕ
variable (m : (ℓ : Loc nD τ sig) → Buf (Elt F) ℓ) (ρ : Dev nD → PrngReg)

/-! ## What the body starts from and ends in -/

/-- What a device starts from: what all know, what is dealt to it, and the buffers cut into slots and pieces. -/
def given (c : Dev nD) : sProp 𝕄 :=
  iprop(∃ κ σ, recs m κ σ ∗ barG c ∗ posG c ∗ allP (start c) ∗ lcZ c)

theorem given_intro (c : Dev nD) :
    iprop(G' m c ∗ levAts L lv ∗ Pipeline.launchCred (owe (rem 0)) c ∗ (slots (F := F) c 0 ∗ slots c 1) ∗ allP (outAny c)) ⊢ given m c := by
  unfold G' lin toksG given
  iintro ⟨⟨%κ, %σ, Hr, Hl, Hat, ⟨⟨Hb0, Hb1⟩, Htok⟩, Hrd, Hwr⟩, Hlev, Hcr, Hsl, Hout⟩
  iexists κ; iexists σ
  ihave Hat := (Entails.of_eq (cells_split fun k => (atPos ER (kcell (c, k)) 0 ∅ 0 : sProp 𝕄))) $$ Hat
  icases Hat with ⟨HatX, Hpos⟩
  ihave Hcr := (dues_split (F := F) c) $$ Hcr
  icases Hcr with ⟨Hbar, Hcr⟩
  ihave Hsl := (slots_join (F := F) c) $$ Hsl
  isplitl [Hr Hlev]
  · unfold recs' recs
    icases Hr with ⟨H1, H2, H3⟩
    isplitl [H1]; · iexact H1
    isplitl [H2]; · iexact H2
    isplitl [H3]; · iexact H3
    iexact Hlev
  isplitl [Hb0 Hb1 Hbar]
  · unfold barG
    isplitl [Hb0]; · iexact Hb0
    isplitl [Hb1]; · iexact Hb1
    iexact Hbar
  isplitl [Hpos]; · unfold posG; iexact Hpos
  isplitr [Hl]; swap; · iexact Hl
  iapply (show iprop((allP fun r p => iprop(anySlot (F := F) (c, r, 0, p) ∗ anySlot (c, r, 1, p)))
      ∗ (allP fun r p => iprop((atPos ER (sdG r 0 p c) 0 ∅ 0 ∗ atPos ER (sdG r 1 p c) 0 ∅ 0) ∗ (atPos ER (rvG r 0 p c) 0 ∅ 0 ∗ atPos ER (rvG r 1 p c) 0 ∅ 0)))
      ∗ (allP fun r p => iprop((dutyTok ER (crC r (upD r c)) 0 (8 * (0 : Fin 2).val + p.val) ∗ dutyTok ER (crC r (upD r c)) 0 (8 * (1 : Fin 2).val + p.val))
        ∗ (sendG 0 c r p ∗ (sendG 1 c r p ∗ sendG 2 c r p))))
      ∗ (allP fun r p => iprop(Release.readerAt ES (c, r, 0, p) 0 ∗ Release.readerAt ES (c, r, 1, p) 0))
      ∗ (allP fun r p => iprop(Release.writeTok ES (dnD r c, r, 0, p) 1 ∗ Release.writeTok ES (dnD r c, r, 1, p) 1))
      ∗ (allP fun r p => iprop((recvG 0 c r p ∗ recvG 1 c r p ∗ recvG 2 c r p)
          ∗ (cred (tallyAt (crC r c) (elv (.crd (0 : Fin 2).val r p)) 1) ∗ cred (tallyAt (crC r c) (elv (.crd (1 : Fin 2).val r p)) 1))))
      ∗ allP (outAny c)) ⊢ allP (start (F := F) c) from by
    simp only [← allP_sep]
    unfold allP
    refine bigSep_mono fun x _ => ?_
    obtain ⟨r, p⟩ := x
    unfold start rest0 stepRes
    show iprop((anySlot (F := F) (c, r, 0, p) ∗ anySlot (c, r, 1, p))
      ∗ ((atPos ER (sdG r 0 p c) 0 ∅ 0 ∗ atPos ER (sdG r 1 p c) 0 ∅ 0) ∗ (atPos ER (rvG r 0 p c) 0 ∅ 0 ∗ atPos ER (rvG r 1 p c) 0 ∅ 0))
      ∗ ((dutyTok ER (crC r (upD r c)) 0 (8 * (0 : Fin 2).val + p.val) ∗ dutyTok ER (crC r (upD r c)) 0 (8 * (1 : Fin 2).val + p.val))
        ∗ (sendG 0 c r p ∗ (sendG 1 c r p ∗ sendG 2 c r p)))
      ∗ (Release.readerAt ES (c, r, 0, p) 0 ∗ Release.readerAt ES (c, r, 1, p) 0)
      ∗ (Release.writeTok ES (dnD r c, r, 0, p) 1 ∗ Release.writeTok ES (dnD r c, r, 1, p) 1)
      ∗ ((recvG 0 c r p ∗ recvG 1 c r p ∗ recvG 2 c r p)
          ∗ (cred (tallyAt (crC r c) (elv (.crd (0 : Fin 2).val r p)) 1) ∗ cred (tallyAt (crC r c) (elv (.crd (1 : Fin 2).val r p)) 1)))
      ∗ outAny c r p) ⊢ iprop(anySlot (F := F) (c, r, 1, p) ∗ (anySlot (c, r, 0, p) ∗ sendG 0 c r p) ∗ (_ ∗ _))
    iintro ⟨⟨A0, A1⟩, HP, ⟨⟨D0, D1⟩, S0, S1, S2⟩, ⟨R0, R1⟩, ⟨W0, W1⟩, ⟨⟨V0, V1, V2⟩, C0, C1⟩, HO⟩
    isplitl [A1]; · iexact A1
    isplitl [A0 S0]
    · isplitl [A0] <;> iassumption
    isplitl [V0 W0 R0 C0 D0 S1]
    · isplitl [V0]; · iexact V0
      isplitl [W0]; · iexact W0
      isplitl [R0]; · iexact R0
      isplitl [C0]; · iexact C0
      isplitl [D0]; · iexact D0
      iexact S1
    isplitl [V1 W1 R1 C1 D1 S2]
    · isplitl [V1]; · iexact V1
      isplitl [W1]; · iexact W1
      isplitl [R1]; · iexact R1
      isplitl [C1]; · iexact C1
      isplitl [D1]; · iexact D1
      iexact S2
    isplitl [V2]; · iexact V2
    isplitl [HP]; · iexact HP
    iexact HO)
  isplitl [Hsl]; · iexact Hsl
  isplitl [HatX]; · iexact HatX
  isplitl [Htok]; · iexact Htok
  isplitl [Hrd]; · iexact Hrd
  isplitl [Hwr]; · iexact Hwr
  isplitl [Hcr]; · iexact Hcr
  iexact Hout

def Φ₀ (c : Dev nD) : sProp 𝕄 := iprop(given m c ∗ stAny c ∗ acAny c ∗ obAny c)
/-- Every cell at rest, the block buffers back, the pieces of the result written. -/
def Φ₁ (c : Dev nD) : sProp 𝕄 :=
  iprop((semVal (barC c) 0 ∗ allP fun r p => outIs c r p (outP m r c p))
    ∗ (allP (xferZ c) ∗ (lcZ c ∗ (semVal (crC 0 c) 0 ∗ semVal (crC 1 c) 0))) ∗ stAny c ∗ acAny c ∗ obAny c)

abbrev s₀ : MemSt nD τ sig (Elt F) := ⟨m, fun _ => 0, ρ⟩

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => s1stg m c
    | ⟨3, _⟩ => s2stg m c
  Φ t := match t with
    | ⟨0, _⟩ => Φ₀ m c
    | ⟨_ + 1, _⟩ => Φ₁ m c
  q _ := fullShare
  owed t := match t with
    | ⟨0, _⟩ => owe (rem 0) c
    | ⟨_ + 1, _⟩ => 0

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem whole_eq (c : Dev nD) (b : Ref sig .tc) (X : b.ty.Contents (Elt F)) :
    (owns (c : Thread nD τ) (Memref.whole b) fullShare X : sProp 𝕄) = stg c b X := owns_whole_eq (c : Thread nD τ) b fullShare X

def bodyPre (c : Dev nD) : sProp 𝕄 :=
  iprop(Φ₀ m c ∗ (dats m 0 c).owesAt 0 t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
def bodyPost (c : Dev nD) : sProp 𝕄 :=
  iprop(Φ₁ m c ∗ (dats m 0 c).owesAt 0 t₀.succ
    ∗ stg c cc0_stg0_0 (xstg m c) ∗ stg c cc0_stg1_0 (wstg m c) ∗ stg c cc0_stg2_0 (s1stg m c) ∗ stg c cc0_stg3_0 (s2stg m c))

theorem before_0 (c : Dev nD) (d) : (dats m 0 c).before (0 : Fin 4) t₀ d = xstg m c := by
  unfold Dat.before; rw [if_pos (fetch0_0 t₀)]; rfl
theorem before_1 (c : Dev nD) (d) : (dats m 0 c).before (1 : Fin 4) t₀ d = wstg m c := by
  unfold Dat.before; rw [if_pos (fetch0_1 t₀)]; rfl
theorem before_2 (c : Dev nD) (d) : (dats m 0 c).before (2 : Fin 4) t₀ d = s1stg m c := by
  unfold Dat.before; rw [if_pos (fetch0_2 t₀)]; rfl
theorem before_3 (c : Dev nD) (d) : (dats m 0 c).before (3 : Fin 4) t₀ d = s2stg m c := by
  unfold Dat.before; rw [if_pos (fetch0_3 t₀)]; rfl

theorem owes_start (c : Dev nD) : (dats m 0 c).owesAt 0 t₀.castSucc ⊢ owesN c 0 := by
  unfold Dat.owesAt Pipeline.owesWithin owesN
  iintro ⟨%W, -, H⟩; iexists W; iexact H
theorem owes_end (c : Dev nD) : (owesN c 82 : sProp 𝕄) ⊢ (dats m 0 c).owesAt 0 t₀.succ := by
  unfold Dat.owesAt Pipeline.owesWithin owesN
  rw [rem_end]
  iintro ⟨%W, H⟩; iexists W
  isplitr; · ipureintro; exact fun _ _ => Or.inl trivial
  iexact H

theorem sound_body (c : Dev nD) :
    bodyPre m c ⊢ WP c (cc0_body xM (Memref.isWhole_whole _) wM (Memref.isWhole_whole _) s1M (Memref.isWhole_whole _) s2M (Memref.isWhole_whole _)
      oM (Memref.isWhole_whole _) (Memref.whole main_v1_1) (Memref.isWhole_whole _) (Memref.whole main_v1_2) (Memref.isWhole_whole _)
      stM (Memref.isWhole_whole _) acM (Memref.isWhole_whole _) obM (Memref.isWhole_whole _)
      cc0_scratch3 cc0_scratch4 cc0_scratch5 cc0_scratch6 cc0_scratch7 cc0_scratch8 cc0_scratch9) (fun _ => bodyPost m c) := by
  unfold bodyPre Φ₀ given
  simp only [before_0, before_1, before_2, before_3]
  iintro ⟨⟨⟨%κ, %σ, Hr, Hb, Hp, Hs, Hlc⟩, Hst, Hac, Hob⟩, HO, ⟨%_, ⟨%fx, %hx, Hx⟩⟩, ⟨%_, ⟨%fw, %hw, Hw⟩⟩, ⟨%_, ⟨%f1, %h1, H1⟩⟩, ⟨%_, ⟨%f2, %h2, H2⟩⟩⟩
  subst hx hw h1 h2
  ihave HO := (owes_start m c) $$ HO
  iapply (wp_body m κ σ c fun _ => bodyPost m c) $$ [Hr Hb Hp Hs Hlc Hst Hac Hob HO Hx Hw H1 H2]
  · isplitl [Hr]; · iexact Hr
    isplitl [Hx Hw Hst Hac Hob Hlc]
    · unfold bufs xPts wPts
      isplitl [Hx]; · iexact Hx
      isplitl [Hw]; · iexact Hw
      isplitl [Hst]; · iexact Hst
      isplitl [Hac]; · iexact Hac
      isplitl [Hob]; · iexact Hob
      iexact Hlc
    isplitl [H1]; · unfold s1Pts; iexact H1
    isplitl [H2]; · unfold s2Pts; iexact H2
    isplitl [HO]; · iexact HO
    isplitl [Hb]; · iexact Hb
    isplitl [Hp]; · iexact Hp
    iexact Hs
  unfold bodyPost Φ₁ bufs xPts wPts s1Pts s2Pts
  iintro ⟨⟨Hx, Hw, Hst, Hac, Hob, Hlc⟩, H1, H2, HO, Hbar, HX, Hcr, Hout⟩
  isplitl [Hst Hac Hob Hlc Hbar HX Hcr Hout]
  · isplitl [Hbar Hout]
    · isplitl [Hbar] <;> iassumption
    isplitl [HX Hlc Hcr]
    · isplitl [HX]; · iexact HX
      isplitl [Hlc] <;> iassumption
    isplitl [Hst]; · iexact Hst
    isplitl [Hac] <;> iassumption
  isplitl [HO]; · iapply (owes_end m c); iexact HO
  isplitl [Hx]; · iexists _; isplitr; · (ipureintro; rfl)
                  iexact Hx
  isplitl [Hw]; · iexists _; isplitr; · (ipureintro; rfl)
                  iexact Hw
  isplitl [H1]; · iexists _; isplitr; · (ipureintro; rfl)
                  iexact H1
  iexists _; isplitr; · (ipureintro; rfl)
  iexact H2

set_option maxRecDepth 100000 in
theorem body_obligation (c : Dev nD) : BodyObligation (dats (F := F) m 0 c) (defs₀ (F := F)) 𝒱₀ 0 Set.univ := fun t => by
  rw [show t = t₀ from fin_N0 t]
  rw [bigSep_W0, bigSep_W0]
  simp only [owns_whole_eq]
  show bodyPre m c ⊢ WP c (cc0_body xM (Memref.isWhole_whole _) wM (Memref.isWhole_whole _) s1M (Memref.isWhole_whole _) s2M (Memref.isWhole_whole _)
      oM (Memref.isWhole_whole _) (Memref.whole main_v1_1) (Memref.isWhole_whole _) (Memref.whole main_v1_2) (Memref.isWhole_whole _)
      stM (Memref.isWhole_whole _) acM (Memref.isWhole_whole _) obM (Memref.isWhole_whole _)
      cc0_scratch3 cc0_scratch4 cc0_scratch5 cc0_scratch6 cc0_scratch7 cc0_scratch8 cc0_scratch9) (fun _ => bodyPost m c)
  exact sound_body m c

/-! ## The launch's side conditions -/

theorem share_eq (c : Dev nD) (w : Fin cfg0.W) : (dats m 0 c).share w = fullShare := by unfold Dat.share; split <;> rfl

theorem L_of_ne (g : GSem nD τ sig) (h : g.1.2 ≠ .tc) : L g = ∅ := by unfold L; rw [if_neg h]

/-- The exchange's share of the launch element beside the staging cells'. -/
def u₀ : UU := (initOf (Pipeline.cells cfgs cellOf_inj) (Pipeline.launchToks cfgs cellOf_inj), uX)

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact may_wait c _ (by decide) above_all
    · have := may_wait (F := F) c (.dma ((cfg0.win w).sem s)) (lo := 0) (n := 82) (by decide) (above_end 0)
      rw [rem_end] at this; exact this

theorem stAny_eq (c : Dev nD) : (stAny c : sProp 𝕄) = iprop(∃ f : Buf (Elt F) ((c : Thread nD τ).loc cc0_scratch0), ((c : Thread nD τ).loc cc0_scratch0) ↦{fullShare} f) := by
  unfold stAny; rw [show stM.view.set = Finset.univ from stM_whole.set_eq_univ]
theorem acAny_eq (c : Dev nD) : (acAny c : sProp 𝕄) = iprop(∃ f : Buf (Elt F) ((c : Thread nD τ).loc cc0_scratch1), ((c : Thread nD τ).loc cc0_scratch1) ↦{fullShare} f) := by
  unfold acAny; rw [show acM.view.set = Finset.univ from acM_whole.set_eq_univ]
theorem obAny_eq (c : Dev nD) : (obAny c : sProp 𝕄) = iprop(∃ f : Buf (Elt F) ((c : Thread nD τ).loc cc0_scratch2), ((c : Thread nD τ).loc cc0_scratch2) ↦{fullShare} f) := by
  unfold obAny; rw [show obM.view.set = Finset.univ from obM_whole.set_eq_univ]

theorem start_intro (c : Dev nD) :
    iprop(Pipeline.unscopedRestP Pipeline.Prefetch.none cfg0.spec c (fun b => m ((c : Thread nD τ).loc b)) ∗ levAts L lv
        ∗ Pipeline.launchCred (owe (rem 0)) c ∗ prngReg c (ρ c) ∗ G' m c)
      ⊢ |={Set.univ}=> iprop(given m c ∗ emp) := by
  rw [Pipeline.unscopedRestP_none, unscopedRest0_eq]
  iintro ⟨⟨H0, H1, H2⟩, Hlev, Hcr, -, HG⟩
  imodintro
  isplitl; swap; · iempintro
  iapply (given_intro m c)
  isplitl [HG]; · iexact HG
  isplitl [Hlev]; · iexact Hlev
  isplitl [Hcr]; · iexact Hcr
  isplitl [H1 H2]
  · isplitl [H1]; · iapply (slots_cut0 c _); iexact H1
    iapply (slots_cut1 c _); iexact H2
  iapply (out_cut c _); iexact H0

theorem phi0_intro (c : Dev nD) :
    iprop(given m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  rw [stAny_eq, acAny_eq, obAny_eq]
  iintro ⟨Hs, -, Hr⟩
  isplitl [Hs] <;> iassumption

def ends (c : Dev nD) : sProp 𝕄 := iprop(semVal (barC c) 0 ∗ allP fun r p => outIs c r p (outP m r c p))

theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl, scopedRest0_eq, ownSems0_eq]
  unfold Φ₁ ends
  rw [stAny_eq, acAny_eq, obAny_eq]

/-- What device `c`'s memory holds at the end: the barrier's counter at zero, every piece of the result written. -/
def QY (c : Dev nD) (s : MemSt nD τ sig (Elt F)) : Prop :=
  (∀ sm : SemLoc sig, sm.isScoped .tc = false → s.sem ((c.tc : Thread nD τ), sm) = 0)
    ∧ ∀ x : Fin 2 × Fin 8, (outV oM x.1 x.2).view.read (Elt F) (s.mem ((c : Thread nD τ).loc main_v1_0)) = outP m x.1 c x.2

theorem piece_read (c : Dev nD) (r : Fin 2) (p : Fin 8) (X : FVec F S1024x512 .f32) (s' : Phys nD τ sig (Elt F)) :
    iprop(outIs c r p X ∗ SI s') ⊢ (⌜(outV oM r p).view.read (Elt F) (s'.mem.mem ((c : Thread nD τ).loc main_v1_0)) = X⌝ : sProp 𝕄) := by
  unfold outIs owns
  iintro ⟨⟨%f, %hf, H⟩, HSI⟩
  ihave H := (SI_pointsTo_agree (st := s') (ℓ := (outV oM r p).view.loc (c : Thread nD τ)) (I := (outV oM r p).view.set) (q := fullShare) (f := f)) $$ [HSI H]
  · isplitl [HSI] <;> iassumption
  icases H with %h
  ipureintro
  rw [← hf]
  exact View.read_congr fun i hi => h i hi

theorem pieces_read (c : Dev nD) (s' : Phys nD τ sig (Elt F)) :
    iprop((allP fun r p => outIs c r p (outP m r c p)) ∗ SI s')
      ⊢ (⌜∀ x : Fin 2 × Fin 8, (outV oM x.1 x.2).view.read (Elt F) (s'.mem.mem ((c : Thread nD τ).loc main_v1_0)) = outP m x.1 c x.2⌝ : sProp 𝕄) := by
  refine (forall_intro fun x => ?_).trans pure_forall.2
  refine (sep_mono_left ?_).trans (piece_read c x.1 x.2 _ s')
  unfold allP
  exact bigSep_elim (Φ := fun x : Fin 2 × Fin 8 => outIs c x.1 x.2 (outP m x.1 c x.2)) (Finset.mem_univ x)

theorem ends_read (c : Dev nD) (s' : Phys nD τ sig (Elt F)) :
    iprop(ends m c ∗ emp ∗ SI s') ⊢ |={Set.univ}=> iprop(⌜QY m c s'.mem⌝ ∗ SI s') := by
  unfold ends
  iintro ⟨⟨Hb, Ho⟩, -, HSI⟩
  ihave H := (persistent_entails_right (pieces_read m c s')) $$ [Ho HSI]
  · isplitl [Ho] <;> iassumption
  icases H with ⟨%ho, -, HSI⟩
  imod (Pipeline.unscopedSems0_read (X := unscopedSems0 c) (c := c) fupd_intro s') $$ [Hb HSI] with ⟨%hb, HSI⟩
  · isplitl [Hb]; · rw [unscopedSems0_eq]; iexact Hb
    iexact HSI
  imodintro
  isplitr; · ipureintro; exact ⟨hb, ho⟩
  iexact HSI

/-! ## The run -/

def finalA (c : Dev nD) (w : Fin cfg0.W) : Buf (Elt F) ((cfg0.win w).arr.view.loc (c : Thread nD τ)) := (dats m 0 c).arrAt w cfg0.N

def QC (r : PUnit × MemSt nD τ sig (Elt F)) : Prop :=
  ∀ c : Dev nD, (∀ w : Fin cfg0.W, r.2.mem ((cfg0.win w).arr.view.loc (c : Thread nD τ)) = finalA m c w) ∧ QY m c r.2

set_option maxRecDepth 100000 in
/-- From any memory, every run ends with the arguments as they were, every piece of the result written
    and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owe (rem 0)) (howed₀ := fun _ => rfl) (howedN := fun _ => rfl)
    (L := L) (lv := lv) (hL := L_of_ne) (hwaits := waits m)
    (G := G) (G' := G' m) (u₀ := u₀)
    (hu₀ := by
      unfold u₀ G
      iintro Hu
      ihave H := (ownU_pair _ _) $$ Hu
      icases H with ⟨HP, HX⟩
      imodintro
      isplitl [HP]; · iexact HP
      rw [SiteBlocks.bigSep_onDev]; iexact HX)
    (hglob := glob m)
    (hA := fun _ _ => rfl) (hpf := fun _ k => k.elim0)
    (X := given m) (Y := ends m) (Z := fun _ => iprop(emp))
    (hX := start_intro m ρ) (hin := phi0_intro m) (hout := phi1_exit m)
    (QY := QY m) (hY := ends_read m)
    (hQ := fun _ h hs => ⟨fun c => ⟨fun w => (h c).1 w, (h c).2.2⟩, sem_eq_zero hs fun c => (h c).2.2.1⟩)

theorem finalA_in (c : Dev nD) (w : Fin cfg0.W) (hw : (cfg0.win w).isOut = false) :
    finalA m c w = m ((cfg0.win w).arr.view.loc (c : Thread nD τ)) :=
  (dats (F := F) m 0 c).arrAt_in w hw _

end Cert.KernelIdeal.Own
-- ==== Proof.Sums.lean ====
/- The mathematics of the claim, of no program: a sum over all columns by blocks of devices, and the two
   ways of writing y times the logistic function of y. -/
module

public import Idealize.ShloMosaic.PureOps.Ideal
public import Mathlib.Algebra.BigOperators.Fin
public import Mathlib.Logic.Equiv.Fin.Basic

@[expose] public section

namespace Cert.Proof

open Idealize.ShloMosaic

/-- The place of row `k` of device `d`'s block in the whole. -/
def glue (d : Fin 4) (k : Fin 1024) : Fin 4096 := ⟨d.val * 1024 + k.val, by have := d.isLt; have := k.isLt; omega⟩

/-- A sum over 4096 places is the sum of the four devices' sums over 1024. -/
theorem sum_blocks {M : Type*} [AddCommMonoid M] (f : Fin 4096 → M) :
    ∑ k, f k = ∑ d : Fin 4, ∑ k : Fin 1024, f (glue d k) := by
  rw [← Fintype.sum_prod_type' (f := fun d k => f (glue d k))]
  refine (Fintype.sum_equiv (finProdFinEquiv (m := 4) (n := 1024)) _ _ fun x => ?_).symm
  refine congrArg f (Fin.ext ?_)
  show x.1.val * 1024 + x.2.val = x.2.val + 1024 * x.1.val
  omega

theorem exp_nonneg (z : EReal) : 0 ≤ Ideal.exp z := by
  induction z with
  | bot => exact le_refl _
  | top => exact le_top
  | coe r => exact EReal.coe_nonneg.2 (Real.exp_pos r).le

/-- `y` times the logistic function of `y` is `y` over one plus the exponential of `-y`, at the infinities too. -/
theorem silu_eq (y : EReal) : y * Ideal.logistic y = Ideal.div y (1 + Ideal.exp (0 - min ⊤ (max ⊥ y))) := by
  rw [top_inf_eq, bot_sup_eq, zero_sub]
  have h : (1 + Ideal.exp (-y)) ≠ 0 := by
    have h0 : (0 : EReal) ≤ Ideal.exp (-y) := exp_nonneg _
    exact (lt_of_lt_of_le zero_lt_one (le_add_of_nonneg_right h0)).ne'
  unfold Ideal.logistic Ideal.div
  rw [if_neg h, if_neg h, one_mul]

end Cert.Proof
-- ==== Proof.Ref.lean ====
/- What the reference computes over the reals: its lines, read at a place of the result. -/
module

public import proofs.«01_k».proof.Proof.Gen.ReferenceIdeal.Value
public import proofs.«01_k».proof.Proof.Gen.Reference.Frame
public import proofs.«01_k».proof.Proof.Sums
public import Idealize.ShloMosaic.Lib.Pointwise
public import Idealize.ShloMosaic.Lib.IdealHost

@[expose] public section

set_option maxRecDepth 16384

noncomputable section

namespace Cert.Proof.Ref

open Idealize.ShloMosaic Idealize.ShloMosaic.TcCoe Idealize.SL.Sem
open Cert.ReferenceIdeal Cert.ReferenceIdeal.Gen

variable (m : (ℓ : Loc nD τ sig) → Buf (Elt Ideal) ℓ)

/-- The host's lines: the product of the two int8 arrays, times the product of the scales. -/
def hostY (x : IVec S4096x4096 8) (w : IVec S4096x8192 8) (a b : FVec Ideal S1 .f32) : FVec Ideal S4096x8192 .f32 :=
  mulf (Host.dotGeneral dot_S4096x4096_S4096x8192_S4096x8192_1_0_0_1_n_n none
      (sitofp .f32 (extsi 32 x natLt_8_32)) (sitofp .f32 (extsi 32 w natLt_8_32)))
    (broadcastInDim S4096x8192 ![0, 1] bcast_S1x1_S4096x8192_0_1 (broadcastInDim S1x1 ![1] bcast_S1_S1x1_1 (mulf a b)))

theorem V_y (c : Dev nD) : V m c main_v8 = hostY (m ((c : Thread nD τ).loc main_arg0)) (m ((c : Thread nD τ).loc main_arg1))
    (m ((c : Thread nD τ).loc main_arg2)) (m ((c : Thread nD τ).loc main_arg3)) := by
  show StableHlo.after hostOps0 _ _ = _
  after_results
  rfl

theorem hostY_apply (x : IVec S4096x4096 8) (w : IVec S4096x8192 8) (a b : FVec Ideal S1 .f32) (i : Fin 4096) (l : Fin 8192) :
    hostY x w a b (ix2 i l)
      = (∑ k : Fin 4096, (((x (ix2 i k)).toInt : ℝ) : EReal) * (((w (ix2 k l)).toInt : ℝ) : EReal)) * ((a (ix1 0) : EReal) * (b (ix1 0) : EReal)) := by
  unfold hostY
  pointwise
  have e : ∀ v : BitVec 8, (FloatOps.sitofp FTy.f32 (BitVec.signExtend 32 v) : Ideal .f32) = (((v.toInt : ℝ) : EReal)) := fun v => by
    have h : (BitVec.signExtend 32 v).toInt = v.toInt := BitVec.toInt_signExtend_of_le (by decide)
    show (((BitVec.signExtend 32 v).toInt : ℝ) : EReal) = _
    rw [h]
  simp only [e]

/-- The window's block is the whole array. -/
theorem iblk_y (c : Dev nD) : iblk m c 0 t0_0 = V m c main_v8 :=
  Memref.read_access_unit_zero (Elt Ideal) main_v8 (funext fun a => by fin_cases a <;> decide) (fun a => by fin_cases a <;> decide) _

theorem out_apply (c : Dev nD) (j : S4096x8192.Idx) :
    (dats m 0 c).arrAt 1 cfg0.N j = Cert.ReferenceIdeal.Value.E1 (V m c main_v8) j := by
  have h := Cert.ReferenceIdeal.Value.blocks1 m c t0_0 (by decide)
  have e : ∀ f, ((cfg0.win 1).blk t0_0).view.read (Elt Ideal) f = f := fun f =>
    Memref.read_access_unit_zero (Elt Ideal) main_v9 (funext fun a => by fin_cases a <;> decide) (fun a => by fin_cases a <;> decide) f
  rw [e, Cert.ReferenceIdeal.Value.flushed1, iblk_y] at h
  have e' : (cfg0.win 1).cut (grid0.coords t0_0) (out0_1 (V m c main_v8)) = out0_1 (V m c main_v8) := by
    refine funext fun x => congrArg (out0_1 (V m c main_v8)) (funext fun a => ?_)
    fin_cases a <;> rfl
  have e'' : View.ld (V m c main_v8) r0_0 = V m c main_v8 := by
    refine funext fun x => congrArg (V m c main_v8) (funext fun a => Fin.ext ?_)
    match a with
    | ⟨0, _⟩ => show 0 + 1 * (x 0).val = (x 0).val; omega
    | ⟨1, _⟩ => show 0 + 1 * (x 1).val = (x 1).val; omega
  rw [e'] at h
  refine (congrFun h j).trans ?_
  unfold out0_1
  rw [Cert.ReferenceIdeal.Value.canon1_eq]
  exact congrFun (congrArg Cert.ReferenceIdeal.Value.E1 e'') j

/-- A word read as a number, and the two scales. -/
def num (b : BitVec 8) : EReal := ((b.toInt : ℝ) : EReal)
def sca (c : Dev nD) : EReal := m ((c : Thread nD τ).loc main_arg2) (ix1 0)
def scb (c : Dev nD) : EReal := m ((c : Thread nD τ).loc main_arg3) (ix1 0)

/-- The whole product of the reference at a place, times the two scales. -/
def pre (c : Dev nD) (i : Fin 4096) (l : Fin 8192) : EReal :=
  (∑ k : Fin 4096, num (m ((c : Thread nD τ).loc main_arg0) (ix2 i k)) * num (m ((c : Thread nD τ).loc main_arg1) (ix2 k l)))
    * (sca m c * scb m c)

theorem value (c : Dev nD) (i : Fin 4096) (l : Fin 8192) :
    (dats m 0 c).arrAt 1 cfg0.N (ix2 i l) = pre m c i l * Ideal.logistic (pre m c i l) := by
  rw [out_apply, silu_eq, V_y]
  have e0 : Cert.ReferenceIdeal.Value.ix1_0 (ix2 i l) = ix2 i l := by
    refine funext fun a => ?_
    match a with
    | ⟨0, _⟩ => rfl
    | ⟨1, _⟩ => rfl
  have e1 : Cert.ReferenceIdeal.Value.ix1_1 (ix2 i l) = ix2 i l := by
    refine funext fun a => ?_
    match a with
    | ⟨0, _⟩ => rfl
    | ⟨1, _⟩ => rfl
  have hlo : (Named.named (F := Ideal) κ "clip_lo" 0xC2700000#32 : Ideal .f32) = (⊥ : EReal) :=
    IdealRules.named_const.ideal_named_scalar _ _ _ _ rfl
  have hhi : (Named.named (F := Ideal) κ "clip_hi" 0x42700000#32 : Ideal .f32) = (⊤ : EReal) :=
    IdealRules.named_const.ideal_named_scalar _ _ _ _ rfl
  dsimp only [Cert.ReferenceIdeal.Value.E1]
  rw [e0, e1, hlo, hhi, hostY_apply]
  rw [show FloatOps.ofBits (F := Ideal) FTy.f32 0x3F800000#32 = (1 : EReal) from Ideal.ofBits_one_f32,
    show FloatOps.ofBits (F := Ideal) FTy.f32 0x00000000#32 = (0 : EReal) from Ideal.ofBits_zero_f32]
  rfl

end Cert.Proof.Ref

end
-- ==== Proof.Frames.lean ====
/- The arguments end as they were and every counter is zero again, of the four programs. The kernel's run is
   proved over any values, so the printed kernel takes it at floats and the idealized one at the reals. -/
module

public import proofs.«01_k».proof.Defs
public import proofs.«01_k».proof.Proof.Launch
public import proofs.«01_k».proof.Proof.Ref
public import proofs.«01_k».proof.Proof.Gen.Kernel
public import proofs.«01_k».proof.Proof.Gen.Reference

@[expose] public section

noncomputable section

namespace Cert.Proof

open Idealize.ShloMosaic Idealize.SL.Sem

section
open Cert.KernelIdeal Cert.KernelIdeal.Own

variable {F : FTy → Type} [FloatOps F] (m : (ℓ : Loc nD τ sig) → Buf (Elt F) ℓ) (ρ : Dev nD → PrngReg)

/-- The kernel's frame, over any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (finalA_in m c 0 rfl), ((h.1 c).1 1).trans (finalA_in m c 1 rfl),
    ((h.1 c).1 2).trans (finalA_in m c 2 rfl), ((h.1 c).1 3).trans (finalA_in m c 3 rfl)⟩, h.2⟩) (run_main m ρ)
end

theorem frame_kernelIdeal : Cert.quiescent_KernelIdeal := fun m ρ _ => frame_any m ρ

/-! The two printed kernels have the same text. -/

set_option maxRecDepth 100000 in
theorem kernels_eq {F : FTy → Type} [FloatOps F] : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl

theorem defs_eq {F : FTy → Type} [FloatOps F] : Cert.Kernel.defs (F := F) = Cert.KernelIdeal.defs :=
  congrArg (Pipeline.defs Cert.KernelIdeal.pcfgs) kernels_eq

theorem frame_kernel : Cert.quiescent_Kernel := fun m ρ _ => by
  rw [defs_eq]; exact frame_any (F := Bits) m ρ

theorem frame_referenceIdeal : Cert.quiescent_ReferenceIdeal := fun m ρ _ => Cert.ReferenceIdeal.Gen.frame m ρ

theorem frame_reference : Cert.quiescent_Reference := fun m ρ _ => Cert.Reference.Gen.frame m ρ

theorem preserves_kernel : Cert.preserves_Kernel_KernelIdeal := trivial

theorem preserves_reference : Cert.preserves_Reference_ReferenceIdeal := ⟨IdealRules.named_const.statement _ _ _ _ _ rfl, IdealRules.named_const.statement _ _ _ _ _ rfl⟩

end Cert.Proof

end
-- ==== Proof.Value.lean ====
/- What the kernel leaves in its result over the reals: at each place the sum, over the four devices, of the
   products of their blocks, scaled and passed through SiLU. -/
module

public import proofs.«01_k».proof.Proof.Launch
public import proofs.«01_k».proof.Proof.Sums
public import Idealize.ShloMosaic.Lib.Pointwise
public import Idealize.ShloMosaic.Lib.VecWindow

@[expose] public section

set_option maxRecDepth 10000

noncomputable section

namespace Cert.KernelIdeal.Own

open Idealize.ShloMosaic Idealize.ShloMosaic.TcCoe Idealize.SL.Sem
open Cert.KernelIdeal.Gen Cert.Proof

variable (m : (ℓ : Loc nD τ sig) → Buf (Elt Ideal) ℓ)

/-- An int8 word as a number. -/
abbrev num (b : BitVec 8) : EReal := ((b.toInt : ℝ) : EReal)

theorem gemm_apply (a : Vec Ideal S1024x1024 .i8) (b : Vec Ideal S1024x512 .i8) (i : Fin 1024) (j : Fin 512) :
    gemm (F := Ideal) a b (ix2 i j) = ∑ k : Fin 1024, num (a (ix2 i k)) * num (b (ix2 k j)) := by
  unfold gemm
  pointwise
  rfl

theorem pay0_apply (a : Vec Ideal S1024x1024 .i8) (b : Vec Ideal S1024x512 .i8) (i : Fin 1024) (j : Fin 512) :
    pay0 (F := Ideal) a b (ix2 i j) = gemm (F := Ideal) a b (ix2 i j) := by
  unfold pay0
  pointwise

theorem pay1_apply (a : Vec Ideal S1024x1024 .i8) (b : Vec Ideal S1024x512 .i8) (v : Vec Ideal S1024x512 .bf16) (i : Fin 1024) (j : Fin 512) :
    pay1 (F := Ideal) a b v (ix2 i j) = gemm (F := Ideal) a b (ix2 i j) + v (ix2 i j) := by
  unfold pay1
  pointwise

theorem pay2_apply (sc : Ideal .f32) (a : Vec Ideal S1024x1024 .i8) (b : Vec Ideal S1024x512 .i8) (v : Vec Ideal S1024x512 .bf16) (i : Fin 1024) (j : Fin 512) :
    pay2 (F := Ideal) sc a b v (ix2 i j)
      = ((gemm (F := Ideal) a b (ix2 i j) + v (ix2 i j)) * sc) * Ideal.logistic ((gemm (F := Ideal) a b (ix2 i j) + v (ix2 i j)) * sc) := by
  unfold pay2 preact
  pointwise

/-! ## The operands' places -/

theorem xstg_eq (c : Dev nD) : xstg m c = m ((c : Thread nD τ).loc main_arg0) :=
  Memref.read_access_unit_zero (Elt Ideal) main_arg0 (funext fun a => by fin_cases a <;> decide) (fun a => by fin_cases a <;> decide) _
theorem wstg_eq (c : Dev nD) : wstg m c = m ((c : Thread nD τ).loc main_arg1) :=
  Memref.read_access_unit_zero (Elt Ideal) main_arg1 (funext fun a => by fin_cases a <;> decide) (fun a => by fin_cases a <;> decide) _
theorem s1stg_eq (c : Dev nD) : s1stg m c = m ((c : Thread nD τ).loc main_arg2) :=
  Memref.read_access_unit_zero (Elt Ideal) main_arg2 (funext fun a => by fin_cases a <;> decide) (fun a => by fin_cases a <;> decide) _
theorem s2stg_eq (c : Dev nD) : s2stg m c = m ((c : Thread nD τ).loc main_arg3) :=
  Memref.read_access_unit_zero (Elt Ideal) main_arg3 (funext fun a => by fin_cases a <;> decide) (fun a => by fin_cases a <;> decide) _

theorem xb_apply (r : Fin 2) (t : ℕ) (e c : Dev nD) (h0 : xo r t e 0 = 1024 * c.val) (h1 : xo r t e 1 = 0) (i k : Fin 1024) :
    xb m r t e (ix2 i k) = m ((e : Thread nD τ).loc main_arg0) (ix2 (glue c i) k) := by
  unfold xb
  rw [xstg_eq]
  refine congrArg (m ((e : Thread nD τ).loc main_arg0)) (funext fun a => Fin.ext ?_)
  match a with
  | ⟨0, _⟩ =>
    show xo r t e 0 + 1 * i.val = c.val * 1024 + i.val
    omega
  | ⟨1, _⟩ =>
    show xo r t e 1 + 1 * k.val = k.val
    omega

/-- The column of the result that is column `j` of piece `p` of ring `r`. -/
def cl (r : Fin 2) (p : Fin 8) (j : Fin 512) : Fin 8192 := ⟨col r p + j.val, by
  have := r.isLt; have := p.isLt; have := j.isLt; show 4096 * r.val + 512 * p.val + j.val < 8192; omega⟩

theorem wb_apply (r : Fin 2) (e : Dev nD) (p : Fin 8) (k : Fin 1024) (j : Fin 512) :
    wb m r e p (ix2 k j) = m ((e : Thread nD τ).loc main_arg1) (ix2 k (cl r p j)) := by
  unfold wb
  rw [wstg_eq]
  refine congrArg (m ((e : Thread nD τ).loc main_arg1)) (funext fun a => Fin.ext ?_)
  match a with
  | ⟨0, _⟩ =>
    show 0 + 1 * k.val = k.val
    omega
  | ⟨1, _⟩ =>
    show col r p + 1 * j.val = col r p + j.val
    omega

/-- The two scales. -/
def sca (c : Dev nD) : EReal := m ((c : Thread nD τ).loc main_arg2) (ix1 0)
def scb (c : Dev nD) : EReal := m ((c : Thread nD τ).loc main_arg3) (ix1 0)

theorem scl_eq (c : Dev nD) : scl m c = sca m c * scb m c := by
  unfold scl
  rw [s1stg_eq, s2stg_eq]
  refine congrArg₂ (fun a b : EReal => a * b) (congrArg (m ((c : Thread nD τ).loc main_arg2)) ?_) (congrArg (m ((c : Thread nD τ).loc main_arg3)) ?_) <;>
    exact funext fun a => match a with | ⟨0, _⟩ => Fin.ext (Nat.lt_one_iff.1 (Fin.isLt _))

/-! ## The sum round the ring -/

/-- Device `e`'s part of the product at row `i` of device `c`'s block and column `l`. -/
def part (e c : Dev nD) (i : Fin 1024) (l : Fin 8192) : EReal :=
  ∑ k : Fin 1024, num (m ((e : Thread nD τ).loc main_arg0) (ix2 (glue c i) k)) * num (m ((e : Thread nD τ).loc main_arg1) (ix2 k l))

/-- The device `s` places back on ring `r`. -/
def back (r : Fin 2) (c : Dev nD) (s : Fin 4) : Dev nD := (upD r)^[s.val] c

theorem back_bijective (r : Fin 2) (c : Dev nD) : Function.Bijective (back r c) := by revert r c; decide

theorem rows_at (r : Fin 2) (c : Dev nD) (s : Fin 4) :
    xo r (3 - s.val) (back r c s) 0 = 1024 * c.val ∧ xo r (3 - s.val) (back r c s) 1 = 0 := by
  revert r c s; decide

/-- At stage `3 - s` the device `s` places back multiplies the rows of device `c`'s block. -/
theorem gemm_part (r : Fin 2) (c : Dev nD) (s : Fin 4) (p : Fin 8) (i : Fin 1024) (j : Fin 512) :
    gemm (F := Ideal) (xb m r (3 - s.val) (back r c s)) (wb m r (back r c s) p) (ix2 i j) = part m (back r c s) c i (cl r p j) := by
  rw [gemm_apply]
  exact Finset.sum_congr rfl fun k _ => by
    rw [xb_apply m r _ _ c (rows_at r c s).1 (rows_at r c s).2, wb_apply]

/-- Row `i`, column `l` of device `c`'s block before the activation. -/
def pre (c : Dev nD) (i : Fin 1024) (l : Fin 8192) : EReal := (∑ e, part m e c i l) * scl m c

theorem chain_sum (r : Fin 2) (c : Dev nD) (p : Fin 8) (i : Fin 1024) (j : Fin 512) :
    gemm (F := Ideal) (xb m r 3 c) (wb m r c p) (ix2 i j) + acc m r 2 (upD r c) p (ix2 i j) = ∑ e, part m e c i (cl r p j) := by
  rw [← (back_bijective r c).sum_comp fun e => part m e c i (cl r p j), Fin.sum_univ_four, ← gemm_part m r c 0 p, ← gemm_part m r c 1 p,
    ← gemm_part m r c 2 p, ← gemm_part m r c 3 p]
  show _ + pay1 (F := Ideal) _ _ (pay1 (F := Ideal) _ _ (pay0 (F := Ideal) _ _)) (ix2 i j) = _
  rw [pay1_apply, pay1_apply, pay0_apply, add_assoc, add_assoc]
  rfl

theorem outP_apply (r : Fin 2) (c : Dev nD) (p : Fin 8) (i : Fin 1024) (j : Fin 512) :
    outP m r c p (ix2 i j) = pre m c i (cl r p j) * Ideal.logistic (pre m c i (cl r p j)) := by
  unfold outP
  rw [pay2_apply, chain_sum]
  rfl

end Cert.KernelIdeal.Own

end
-- ==== Proof.Algebraic.lean ====
/- Over the reals, the blocks the kernel leaves on the devices are the blocks of the reference's result. -/
module

public import proofs.«01_k».proof.Defs
public import proofs.«01_k».proof.Proof.Frames
public import proofs.«01_k».proof.Proof.Value
public import proofs.«01_k».proof.Proof.Ref

@[expose] public section

noncomputable section

namespace Cert.Proof

open Idealize.ShloMosaic Idealize.ShloMosaic.TcCoe Idealize.SL.Sem
open Cert.KernelIdeal Cert.KernelIdeal.Own

/-- The same place named by its piece: column `l` is column `l % 512` of piece `l % 4096 / 512` of ring `l / 4096`. -/
theorem cl_cover (l : Fin 8192) : ∃ r p j, l = cl r p j := by
  have := l.isLt
  refine ⟨⟨l.val / 4096, by omega⟩, ⟨l.val % 4096 / 512, by omega⟩, ⟨l.val % 512, by omega⟩, Fin.ext ?_⟩
  show l.val = 4096 * (l.val / 4096) + 512 * (l.val % 4096 / 512) + l.val % 512
  omega

section
variable (m : (ℓ : Loc nD τ sig) → Buf (Elt Ideal) ℓ)

/-- Reading a piece of the result is reading the result. -/
theorem piece_read (c : Dev nD) (f : Buf (Elt Ideal) ((c : Thread nD τ).loc main_v1_0)) (r : Fin 2) (p : Fin 8) (i : Fin 1024) (j : Fin 512) :
    (outV oM r p).view.read (Elt Ideal) f (ix2 i j) = f (ix2 i (cl r p j)) := by
  refine congrArg f (funext fun a => Fin.ext ?_)
  match a with
  | ⟨0, _⟩ =>
    show 0 + 1 * i.val = i.val
    omega
  | ⟨1, _⟩ =>
    show col r p + 1 * j.val = col r p + j.val
    omega

/-- After the run, device `c`'s result at every place. -/
theorem result_apply (c : Dev nD) (s : MemSt nD τ sig (Elt Ideal)) (h : QY m c s) (i : Fin 1024) (l : Fin 8192) :
    s.mem ((c : Thread nD τ).loc main_v1_0) (ix2 i l) = Own.pre m c i l * Ideal.logistic (Own.pre m c i l) := by
  obtain ⟨r, p, j, rfl⟩ := cl_cover l
  exact (piece_read c _ r p i j).symm.trans ((congrFun (h.2 (r, p)) (ix2 i j)).trans (outP_apply m r c p i j))

variable (m' : (ℓ : Loc Cert.ReferenceIdeal.nD Cert.ReferenceIdeal.τ Cert.ReferenceIdeal.sig) → Buf (Elt Ideal) ℓ)

/-- The arrays of the devices are the blocks of the reference's arrays. -/
def Blocks : Prop := ∀ c : Dev nD,
  m ((c : Thread nD τ).loc main_arg0) = Layout.block ⟨2, ![4096, 1024]⟩ ⟨2, ![4096, 4096]⟩ 1 4 c (m' (((0 : Dev Cert.ReferenceIdeal.nD) : Thread Cert.ReferenceIdeal.nD Cert.ReferenceIdeal.τ).loc Cert.ReferenceIdeal.main_arg0))
  ∧ m ((c : Thread nD τ).loc main_arg1) = Layout.block ⟨2, ![1024, 8192]⟩ ⟨2, ![4096, 8192]⟩ 0 4 c (m' (((0 : Dev Cert.ReferenceIdeal.nD) : Thread Cert.ReferenceIdeal.nD Cert.ReferenceIdeal.τ).loc Cert.ReferenceIdeal.main_arg1))
  ∧ m ((c : Thread nD τ).loc main_arg2) = m' (((0 : Dev Cert.ReferenceIdeal.nD) : Thread Cert.ReferenceIdeal.nD Cert.ReferenceIdeal.τ).loc Cert.ReferenceIdeal.main_arg2)
  ∧ m ((c : Thread nD τ).loc main_arg3) = m' (((0 : Dev Cert.ReferenceIdeal.nD) : Thread Cert.ReferenceIdeal.nD Cert.ReferenceIdeal.τ).loc Cert.ReferenceIdeal.main_arg3)

/-- The devices' parts add up to the reference's product. -/
theorem pre_eq (hB : Blocks m m') (c : Dev nD) (i : Fin 1024) (l : Fin 8192) :
    Own.pre m c i l = Ref.pre m' 0 (glue c i) l := by
  have h0 : ∀ (e : Dev nD) (k : Fin 1024), m ((e : Thread nD τ).loc main_arg0) (ix2 (glue c i) k)
      = m' (((0 : Dev Cert.ReferenceIdeal.nD) : Thread Cert.ReferenceIdeal.nD Cert.ReferenceIdeal.τ).loc Cert.ReferenceIdeal.main_arg0) (ix2 (glue c i) (glue e k)) := fun e k => by
    rw [(hB e).1, Layout.block_apply]
    refine congrArg _ (funext fun a => Fin.ext ?_)
    match a with
    | ⟨0, _⟩ => rfl
    | ⟨1, _⟩ => rfl
  have h1 : ∀ (e : Dev nD) (k : Fin 1024), m ((e : Thread nD τ).loc main_arg1) (ix2 k l)
      = m' (((0 : Dev Cert.ReferenceIdeal.nD) : Thread Cert.ReferenceIdeal.nD Cert.ReferenceIdeal.τ).loc Cert.ReferenceIdeal.main_arg1) (ix2 (glue e k) l) := fun e k => by
    rw [(hB e).2.1, Layout.block_apply]
    refine congrArg _ (funext fun a => Fin.ext ?_)
    match a with
    | ⟨0, _⟩ => rfl
    | ⟨1, _⟩ => rfl
  have h2 : Own.sca m c = Ref.sca m' 0 := congrFun (hB c).2.2.1 (ix1 0)
  have h3 : Own.scb m c = Ref.scb m' 0 := congrFun (hB c).2.2.2 (ix1 0)
  unfold Own.pre Ref.pre
  rw [scl_eq, h2, h3, sum_blocks]
  refine congrArg (· * (Ref.sca m' 0 * Ref.scb m' 0)) (Finset.sum_congr rfl fun e _ => Finset.sum_congr rfl fun k _ => ?_)
  rw [h0, h1]
  rfl

/-- Device `c`'s result is block `c` of the reference's. -/
theorem result_eq (hB : Blocks m m') (c : Dev nD) (s : MemSt nD τ sig (Elt Ideal)) (h : QY m c s) :
    s.mem ((c : Thread nD τ).loc main_v1_0)
      = Layout.block ⟨2, ![1024, 8192]⟩ ⟨2, ![4096, 8192]⟩ 0 4 c ((Cert.ReferenceIdeal.Gen.dats m' 0 0).arrAt 1 Cert.ReferenceIdeal.cfg0.N) := by
  have key : ∀ (i : Fin 1024) (l : Fin 8192), s.mem ((c : Thread nD τ).loc main_v1_0) (ix2 i l)
      = (Cert.ReferenceIdeal.Gen.dats m' 0 0).arrAt 1 Cert.ReferenceIdeal.cfg0.N (ix2 (glue c i) l) := fun i l =>
    (result_apply m c s h i l).trans ((congrArg (fun y : EReal => y * Ideal.logistic y) (pre_eq m m' hB c i l)).trans (Ref.value m' 0 (glue c i) l).symm)
  funext y
  have hy : y = ix2 (y 0) (y 1) := funext fun a => match a with
    | ⟨0, _⟩ => rfl
    | ⟨1, _⟩ => rfl
  refine (congrArg (s.mem ((c : Thread nD τ).loc main_v1_0)) hy).trans ((key (y 0) (y 1)).trans ?_)
  rw [Layout.block_apply]
  refine congrArg ((Cert.ReferenceIdeal.Gen.dats m' 0 0).arrAt 1 Cert.ReferenceIdeal.cfg0.N) (funext fun a => Fin.ext ?_)
  match a with
  | ⟨0, _⟩ => rfl
  | ⟨1, _⟩ => rfl

end

theorem algebraic : Cert.algebraic_KernelIdeal_ReferenceIdeal (hKernelIdeal := Cert.KernelIdeal.Gen.facts) (hReferenceIdeal := Cert.ReferenceIdeal.Gen.facts) := by
  intro m g m' g' _ hB
  refine ⟨(Cert.ReferenceIdeal.Gen.dats m' 0 0).arrAt 1 Cert.ReferenceIdeal.cfg0.N, ?_, ?_⟩
  · refine (θ_run _ _ _).mono (fun r h c => ?_) (Own.run_main (F := Ideal) m g)
    exact ⟨result_eq m m' hB c r.2 (h.1 c).2, ((h.1 c).1 0).trans (finalA_in m c 0 rfl), ((h.1 c).1 1).trans (finalA_in m c 1 rfl),
      ((h.1 c).1 2).trans (finalA_in m c 2 rfl), ((h.1 c).1 3).trans (finalA_in m c 3 rfl)⟩
  · exact (θ_run _ _ _).mono (fun r h => h 0) (Cert.ReferenceIdeal.Value.run_blocks (F := Ideal) m' g')

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Reference

@[expose] public section

noncomputable section

namespace Cert.Proof

theorem claim : Cert.Claim := ⟨Cert.Kernel.Gen.facts, Cert.KernelIdeal.Gen.facts, Cert.ReferenceIdeal.Gen.facts, Cert.Reference.Gen.facts,
  frame_kernel, frame_kernelIdeal, frame_referenceIdeal, frame_reference, preserves_kernel, preserves_reference, algebraic⟩

end Cert.Proof

end
